-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonzero_pivots [hPre_finite_nonzero_pivots : Cert.Pre_finite_nonzero_pivots.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonzero_pivots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_nonzero_pivots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_nonzero_pivots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonzero_pivots [hPre_finite_nonzero_pivots : Cert.Pre_finite_nonzero_pivots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonzero_pivots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_nonzero_pivots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_nonzero_pivots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_nonzero_pivots [hKernelIdeal : Cert.KernelIdeal.Facts] [hPre_finite_nonzero_pivots : Cert.Pre_finite_nonzero_pivots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonzero_pivots m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_nonzero_pivots [hReferenceIdeal : Cert.ReferenceIdeal.Facts] [hPre_finite_nonzero_pivots : Cert.Pre_finite_nonzero_pivots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonzero_pivots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_nonzero_pivots [hKernelIdeal : Cert.KernelIdeal.Facts] [hReferenceIdeal : Cert.ReferenceIdeal.Facts] [hPre_finite_nonzero_pivots : Cert.Pre_finite_nonzero_pivots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonzero_pivots m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v11_6) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_all_but_the_update [hKernelIdeal : Cert.KernelIdeal.Facts] [hReferenceIdeal : Cert.ReferenceIdeal.Facts] [hOn_all_but_the_update : Cert.On_all_but_the_update.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 3968, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨3, ![2, 128, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v0_1) i = v1 c i)
          ∧ (∀ i : (⟨3, ![2, 64, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v0_2) i = v2 c i)
          ∧ (∀ i : (⟨3, ![2, 1, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 3968, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v14) i = v0 c i)
          ∧ (∀ i : (⟨3, ![2, 128, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v11_6) i = v1 c i)
          ∧ (∀ i : (⟨3, ![2, 64, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v25) i = v2 c i)
          ∧ (∀ i : (⟨3, ![2, 1, 14336]⟩ : Shape).Idx, (Cert.On_all_but_the_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.ReferenceIdeal.nD Cert.ReferenceIdeal.τ).loc Cert.ReferenceIdeal.main_v7) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_nonzero_pivots : Cert.Pre_finite_nonzero_pivots.Facts) (hOn_all_but_the_update : Cert.On_all_but_the_update.Facts),
    quiescent_Kernel (hKernel := hKernel)
    ∧ quiescent_KernelIdeal (hKernelIdeal := hKernelIdeal)
    ∧ quiescent_KernelIdeal_pre_finite_nonzero_pivots (hKernelIdeal := hKernelIdeal) (hPre_finite_nonzero_pivots := hPre_finite_nonzero_pivots)
    ∧ quiescent_ReferenceIdeal (hReferenceIdeal := hReferenceIdeal)
    ∧ quiescent_ReferenceIdeal_pre_finite_nonzero_pivots (hReferenceIdeal := hReferenceIdeal) (hPre_finite_nonzero_pivots := hPre_finite_nonzero_pivots)
    ∧ preserves_Kernel_KernelIdeal
    ∧ algebraic_KernelIdeal_ReferenceIdeal_pre_finite_nonzero_pivots (hKernelIdeal := hKernelIdeal) (hReferenceIdeal := hReferenceIdeal) (hPre_finite_nonzero_pivots := hPre_finite_nonzero_pivots)
    ∧ algebraic_KernelIdeal_ReferenceIdeal_on_all_but_the_update (hKernelIdeal := hKernelIdeal) (hReferenceIdeal := hReferenceIdeal) (hOn_all_but_the_update := hOn_all_but_the_update)
-- ==== On_all_but_the_update.lean ====
abbrev S2x128x14336 : Shape := ⟨3, ![2, 128, 14336]⟩
abbrev S128x4096 : Shape := ⟨2, ![128, 4096]⟩
abbrev S_ : Shape := ⟨0, ![]⟩
abbrev S2x3968x14336 : Shape := ⟨3, ![2, 3968, 14336]⟩
abbrev S2x64x14336 : Shape := ⟨3, ![2, 64, 14336]⟩
abbrev S2x1x14336 : Shape := ⟨3, ![2, 1, 14336]⟩

class Facts : Prop where
  bcast_S_S2x3968x14336 : S_.BroadcastsInDim S2x3968x14336 (![] : Fin 0 → Fin S2x3968x14336.rank)
  bcast_S_S2x128x14336 : S_.BroadcastsInDim S2x128x14336 (![] : Fin 0 → Fin S2x128x14336.rank)
  bcast_S_S2x64x14336 : S_.BroadcastsInDim S2x64x14336 (![] : Fin 0 → Fin S2x64x14336.rank)
  bcast_S_S2x1x14336 : S_.BroadcastsInDim S2x1x14336 (![] : Fin 0 → Fin S2x1x14336.rank)

variable [Facts]

def fn {F : FTy → Type} [FloatOps F] (main_arg0 : FVec F S2x128x14336 .f32) (main_arg1 : FVec F S128x4096 .f32) : IVec S2x3968x14336 1 × IVec S2x128x14336 1 × IVec S2x64x14336 1 × IVec S2x1x14336 1 :=
  let main_c : IVec S_ 1 := constantI S_ 1 0#1
  let main_v0 : IVec S2x3968x14336 1 := broadcastInDim S2x3968x14336 ![] bcast_S_S2x3968x14336 main_c
  let main_c_0 : IVec S_ 1 := constantI S_ 1 1#1
  let main_v1 : IVec S2x128x14336 1 := broadcastInDim S2x128x14336 ![] bcast_S_S2x128x14336 main_c_0
  let main_c_1 : IVec S_ 1 := constantI S_ 1 1#1
  let main_v2 : IVec S2x64x14336 1 := broadcastInDim S2x64x14336 ![] bcast_S_S2x64x14336 main_c_1
  let main_c_2 : IVec S_ 1 := constantI S_ 1 1#1
  let main_v3 : IVec S2x1x14336 1 := broadcastInDim S2x1x14336 ![] bcast_S_S2x1x14336 main_c_2
  (main_v0, main_v1, main_v2, main_v3)
-- ==== Pre_finite_nonzero_pivots.lean ====
abbrev S2x128x14336 : Shape := ⟨3, ![2, 128, 14336]⟩
abbrev S128x4096 : Shape := ⟨2, ![128, 4096]⟩
abbrev S128x128 : Shape := ⟨2, ![128, 128]⟩
abbrev S_ : Shape := ⟨0, ![]⟩

class Facts : Prop where
  bcast_S_S2x128x14336 : S_.BroadcastsInDim S2x128x14336 (![] : Fin 0 → Fin S2x128x14336.rank)
  reducesTo_S2x128x14336_S_d0_1_2 : S2x128x14336.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_
  slices_S128x4096_S128x128_0_0 : S128x4096.Slices ![0, 0] S128x128
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2x128x14336 .f32) (main_arg1 : FVec F S128x4096 .f32) : IVec S_ 1 × IVec S_ 1 × IVec S_ 1 :=
  let main_v0 : IVec S128x128 32 := iotaInDim S128x128 32 0
  let main_v1 : IVec S128x128 32 := iotaInDim S128x128 32 1
  let main_v2 : FVec F S2x128x14336 .f32 := Host.absf main_arg0
  let main_cst : FVec F S_ .f32 := constant S_ .f32 0x7F800000#32
  let main_v3 : FVec F S2x128x14336 .f32 := broadcastInDim S2x128x14336 ![] bcast_S_S2x128x14336 main_cst
  let main_v4 : IVec S2x128x14336 1 := cmpf .olt main_v2 main_v3
  let main_c : IVec S_ 1 := constantI S_ 1 1#1
  let main_v5 : IVec S_ 1 := (fun x v => Host.reduce IntOp.andi x v reducesTo_S2x128x14336_S_d0_1_2 h_S_) main_v4 main_c
  let main_v6 : FVec F S128x4096 .f32 := Host.absf main_arg1
  let main_cst_0 : FVec F S_ .f32 := constant S_ .f32 0x7F800000#32
  let main_v7 : FVec F S128x4096 .f32 := broadcastInDim S128x4096 ![] bcast_S_S128x4096 main_cst_0
  let main_v8 : IVec S128x4096 1 := cmpf .olt main_v6 main_v7
  let main_c_1 : IVec S_ 1 := constantI S_ 1 1#1
  let main_v9 : IVec S_ 1 := (fun x v => Host.reduce IntOp.andi x v reducesTo_S128x4096_S_d0_1 h_S_) main_v8 main_c_1
  let main_v10 : IVec S128x128 1 := cmpi .ne main_v0 main_v1
  let main_v11 : FVec F S128x128 .f32 := (extractStridedSlice S128x128 ![0, 0] · slices_S128x4096_S128x128_0_0) main_arg1
  let main_cst_2 : FVec F S_ .f32 := constant S_ .f32 0x00000000#32
  let main_v12 : FVec F S128x128 .f32 := broadcastInDim S128x128 ![] bcast_S_S128x128 main_cst_2
  let main_v13 : IVec S128x128 1 := cmpf .une main_v11 main_v12
  let main_v14 : IVec S128x128 1 := ori main_v10 main_v13
  let main_c_3 : IVec S_ 1 := constantI S_ 1 1#1
  let main_v15 : IVec S_ 1 := (fun x v => Host.reduce IntOp.andi x v reducesTo_S128x128_S_d0_1 h_S_) main_v14 main_c_3
  (main_v5, main_v9, main_v15)
-- ==== Kernel.lean ====
abbrev S2x128x14336 : Shape := ⟨3, ![2, 128, 14336]⟩
abbrev S128x4096 : Shape := ⟨2, ![128, 4096]⟩
abbrev S2x3968x14336 : Shape := ⟨3, ![2, 3968, 14336]⟩
abbrev S2x64x14336 : Shape := ⟨3, ![2, 64, 14336]⟩
abbrev S2x1x14336 : Shape := ⟨3, ![2, 1, 14336]⟩
abbrev S128x128 : Shape := ⟨2, ![128, 128]⟩
abbrev S1x128x1024 : Shape := ⟨3, ![1, 128, 1024]⟩
abbrev S1x3968x1024 : Shape := ⟨3, ![1, 3968, 1024]⟩
abbrev S1x64x1024 : Shape := ⟨3, ![1, 64, 1024]⟩
abbrev S1x1x1024 : Shape := ⟨3, ![1, 1, 1024]⟩
abbrev S2x3968x256 : Shape := ⟨3, ![2, 3968, 256]⟩
abbrev S2x3x128x1024 : Shape := ⟨4, ![2, 3, 128, 1024]⟩
abbrev S1088x128 : Shape := ⟨2, ![1088, 128]⟩
abbrev S128x8x128 : Shape := ⟨3, ![128, 8, 128]⟩
abbrev S576x128 : Shape := ⟨2, ![576, 128]⟩
abbrev S1x128x128 : Shape := ⟨3, ![1, 128, 128]⟩
abbrev S1x1x128x256 : Shape := ⟨4, ![1, 1, 128, 256]⟩
abbrev S128x256 : Shape := ⟨2, ![128, 256]⟩
abbrev S768x256 : Shape := ⟨2, ![768, 256]⟩
abbrev S1x496x256 : Shape := ⟨3, ![1, 496, 256]⟩
abbrev S496x256 : Shape := ⟨2, ![496, 256]⟩
abbrev S496x768 : Shape := ⟨2, ![496, 768]⟩
abbrev S8x128 : Shape := ⟨2, ![8, 128]⟩
abbrev S1x128 : Shape := ⟨2, ![1, 128]⟩
abbrev S1x1x128 : Shape := ⟨3, ![1, 1, 128]⟩
abbrev S1x8x128 : Shape := ⟨3, ![1, 8, 128]⟩
abbrev S1x1 : Shape := ⟨2, ![1, 1]⟩
abbrev S1x1x128x128 : Shape := ⟨4, ![1, 1, 128, 128]⟩
abbrev S64x128 : Shape := ⟨2, ![64, 128]⟩
abbrev S1x64x128 : Shape := ⟨3, ![1, 64, 128]⟩

abbrev nBuf : Space → Nat
  | .hbm => 6
  | .vmem => 17
  | .smem => 1
  | _ => 0

abbrev bufTy : (tb : Table) → Fin (tcTables nBuf tb) → BufTy
  | .hbm, ⟨0, _⟩ => ⟨S2x128x14336, .f32⟩
  | .hbm, ⟨1, _⟩ => ⟨S128x4096, .f32⟩
  | .hbm, ⟨2, _⟩ => ⟨S2x3968x14336, .f32⟩
  | .hbm, ⟨3, _⟩ => ⟨S2x128x14336, .f32⟩
  | .hbm, ⟨4, _⟩ => ⟨S2x64x14336, .i8⟩
  | .hbm, ⟨5, _⟩ => ⟨S2x1x14336, .f32⟩
  | .local _ .vmem, ⟨0, _⟩ => ⟨S1x128x1024, .f32⟩
  | .local _ .vmem, ⟨1, _⟩ => ⟨S1x128x1024, .f32⟩
  | .local _ .vmem, ⟨2, _⟩ => ⟨S128x4096, .f32⟩
  | .local _ .vmem, ⟨3, _⟩ => ⟨S1x3968x1024, .f32⟩
  | .local _ .vmem, ⟨4, _⟩ => ⟨S1x3968x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x64x1024, .i8⟩
  | .local _ .vmem, ⟨8, _⟩ => ⟨S1x64x1024, .i8⟩
  | .local _ .vmem, ⟨9, _⟩ => ⟨S1x1x1024, .f32⟩
  | .local _ .vmem, ⟨10, _⟩ => ⟨S1x1x1024, .f32⟩
  | .local _ .vmem, ⟨11, _⟩ => ⟨S2x3968x256, .bf16⟩
  | .local _ .vmem, ⟨12, _⟩ => ⟨S2x3x128x1024, .bf16⟩
  | .local _ .vmem, ⟨13, _⟩ => ⟨S1088x128, .f32⟩
  | .local _ .vmem, ⟨14, _⟩ => ⟨S1088x128, .f32⟩
  | .local _ .vmem, ⟨15, _⟩ => ⟨S128x8x128, .f32⟩
  | .local _ .vmem, ⟨16, _⟩ => ⟨S576x128, .i32⟩
  | .local _ .smem, ⟨0, _⟩ => ⟨S128x128, .f32⟩
  | _, _ => ⟨S2x128x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![29], ![false]⟩

def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

def k0_off1 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v315 : Index := Scalar.indexCast v314
  let c0_205 : Index := 0#32
  let c0_206 : Index := 0#32
  let c0_207 : Index := 0#32
  ![v315.toNat, 0, 0, 0]
def k0_off2 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v318 : Index := Scalar.indexCast v314
  let c1_208 : Index := 1#32
  let c0_209 : Index := 0#32
  let c0_210 : Index := 0#32
  ![v318.toNat, 1, 0, 0]
def k0_off3 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v321 : Index := Scalar.indexCast v314
  let c2_211 : Index := 2#32
  let c0_212 : Index := 0#32
  let c0_213 : Index := 0#32
  ![v321.toNat, 2, 0, 0]
def k0_off4 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v397 : Index := Scalar.indexCast v314
  let c0_287 : Index := 0#32
  let c0_288 : Index := 0#32
  let c256_289 : Index := 256#32
  ![v397.toNat, 0, 0, 256]
def k0_off5 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v400 : Index := Scalar.indexCast v314
  let c1_290 : Index := 1#32
  let c0_291 : Index := 0#32
  let c256_292 : Index := 256#32
  ![v400.toNat, 1, 0, 256]
def k0_off6 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v403 : Index := Scalar.indexCast v314
  let c2_293 : Index := 2#32
  let c0_294 : Index := 0#32
  let c256_295 : Index := 256#32
  ![v403.toNat, 2, 0, 256]
def k0_off7 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v479 : Index := Scalar.indexCast v314
  let c0_376 : Index := 0#32
  let c0_377 : Index := 0#32
  let c512_378 : Index := 512#32
  ![v479.toNat, 0, 0, 512]
def k0_off8 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v482 : Index := Scalar.indexCast v314
  let c1_379 : Index := 1#32
  let c0_380 : Index := 0#32
  let c512_381 : Index := 512#32
  ![v482.toNat, 1, 0, 512]
def k0_off9 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v485 : Index := Scalar.indexCast v314
  let c2_382 : Index := 2#32
  let c0_383 : Index := 0#32
  let c512_384 : Index := 512#32
  ![v485.toNat, 2, 0, 512]
def k0_off10 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v561 : Index := Scalar.indexCast v314
  let c0_465 : Index := 0#32
  let c0_466 : Index := 0#32
  let c768_467 : Index := 768#32
  ![v561.toNat, 0, 0, 768]
def k0_off11 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v564 : Index := Scalar.indexCast v314
  let c1_468 : Index := 1#32
  let c0_469 : Index := 0#32
  let c768_470 : Index := 768#32
  ![v564.toNat, 1, 0, 768]
def k0_off12 (i : grid0.Coords) : Fin 4 → Nat :=
  let c1_i32_204 : BitVec 32 := 1#32
  let arg0 : BitVec 32 := BitVec.ofNat 32 (i 0).val
  let c2_i32 : BitVec 32 := 2#32
  let v0 : BitVec 32 := Scalar.remsi arg0 c2_i32
  let v314 : BitVec 32 := Scalar.subi c1_i32_204 v0
  let v567 : Index := Scalar.indexCast v314
  let c2_471 : Index := 2#32
  let c0_472 : Index := 0#32
  let c768_473 : Index := 768#32
  ![v567.toNat, 2, 0, 768]
@[reducible] def k0_t1_loop : Scf.Loop 32 :=
  let c1_i32 : BitVec 32 := 1#32
  let c127_i32 : BitVec 32 := 127#32
  let v49 : BitVec 32 := Scalar.addi c1_i32 c127_i32
  let c1_i32_30 : BitVec 32 := 1#32
  ⟨c1_i32, v49, c1_i32_30⟩
def k0_off13 (k0_t1 : Fin k0_t1_loop.trips) : Fin 2 → Nat :=
  let c1_i32 : BitVec 32 := 1#32
  let c1_i32_30 : BitVec 32 := 1#32
  let arg14 : BitVec 32 := Scf.iv c1_i32 c1_i32_30 k0_t1
  let v314 : Index := Scalar.indexCast arg14
  let c0_204 : Index := 0#32
  ![v314.toNat, 0]
@[reducible] def k0_t2_loop : Scf.Loop 32 :=
  let c0_i32_58 : BitVec 32 := 0#32
  let c8_i32 : BitVec 32 := 8#32
  let v89 : BitVec 32 := Scalar.addi c0_i32_58 c8_i32
  let c1_i32_59 : BitVec 32 := 1#32
  ⟨c0_i32_58, v89, c1_i32_59⟩
@[reducible] def k0_t3_loop (k0_t2 : Fin k0_t2_loop.trips) : Scf.Loop 32 :=
  let c0_i32_204 : BitVec 32 := 0#32
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let v315 : BitVec 32 := Scalar.subi v314 c0_i32_204
  let c1_i32_206 : BitVec 32 := 1#32
  let v317 : BitVec 32 := Scalar.divsi v315 c1_i32_206
  let v318 : BitVec 32 := Scalar.muli v317 c1_i32_206
  let v319 : BitVec 32 := Scalar.addi c0_i32_204 v318
  let c1_i32_207 : BitVec 32 := 1#32
  ⟨c0_i32_204, v319, c1_i32_207⟩
def k0_off14 (k0_t2 : Fin k0_t2_loop.trips) (k0_t3 : Fin (k0_t3_loop k0_t2).trips) : Fin 3 → Nat :=
  let c0_i32_204 : BitVec 32 := 0#32
  let c1_i32_207 : BitVec 32 := 1#32
  let arg15 : BitVec 32 := Scf.iv c0_i32_204 c1_i32_207 k0_t3
  let v323 : Index := Scalar.indexCast arg15
  let c0_213 : Index := 0#32
  let c0_214 : Index := 0#32
  ![v323.toNat, 0, 0]
@[reducible] def k0_t4_loop : Scf.Loop 32 :=
  let c0_i32_216 : BitVec 32 := 0#32
  let c16_i32_217 : BitVec 32 := 16#32
  let v326 : BitVec 32 := Scalar.addi c0_i32_216 c16_i32_217
  let c1_i32_218 : BitVec 32 := 1#32
  ⟨c0_i32_216, v326, c1_i32_218⟩
def k0_off15 (k0_t2 : Fin k0_t2_loop.trips) (k0_t4 : Fin k0_t4_loop.trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c0_i32_216 : BitVec 32 := 0#32
  let c1_i32_218 : BitVec 32 := 1#32
  let arg17 : BitVec 32 := Scf.iv c0_i32_216 c1_i32_218 k0_t4
  let v328 : BitVec 32 := Scalar.addi v314 arg17
  let v329 : Index := Scalar.indexCast v328
  let c0_220 : Index := 0#32
  ![v329.toNat, 0]
def k0_off16 (k0_t2 : Fin k0_t2_loop.trips) (k0_t3 : Fin (k0_t3_loop k0_t2).trips) (k0_t4 : Fin k0_t4_loop.trips) : Fin 2 → Nat :=
  let c0_i32_204 : BitVec 32 := 0#32
  let c1_i32_207 : BitVec 32 := 1#32
  let arg15 : BitVec 32 := Scf.iv c0_i32_204 c1_i32_207 k0_t3
  let v332 : Index := Scalar.indexCast arg15
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c0_i32_216 : BitVec 32 := 0#32
  let c1_i32_218 : BitVec 32 := 1#32
  let arg17 : BitVec 32 := Scf.iv c0_i32_216 c1_i32_218 k0_t4
  let v331 : BitVec 32 := Scalar.addi v314 arg17
  let v333 : Index := Scalar.indexCast v331
  ![v332.toNat, v333.toNat]
@[reducible] def k0_t5_loop (k0_t2 : Fin k0_t2_loop.trips) : Scf.Loop 32 :=
  let c0_i32_204 : BitVec 32 := 0#32
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let v315 : BitVec 32 := Scalar.subi v314 c0_i32_204
  let c1_i32_206 : BitVec 32 := 1#32
  let v317 : BitVec 32 := Scalar.divsi v315 c1_i32_206
  let v318 : BitVec 32 := Scalar.muli v317 c1_i32_206
  let v319 : BitVec 32 := Scalar.addi c0_i32_204 v318
  let v316 : BitVec 32 := Scalar.addi c0_i32_204 v315
  let c1_i32_208 : BitVec 32 := 1#32
  ⟨v319, v316, c1_i32_208⟩
def k0_off17 (k0_t2 : Fin k0_t2_loop.trips) (k0_t5 : Fin (k0_t5_loop k0_t2).trips) : Fin 3 → Nat :=
  let c0_i32_204 : BitVec 32 := 0#32
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let v315 : BitVec 32 := Scalar.subi v314 c0_i32_204
  let c1_i32_206 : BitVec 32 := 1#32
  let v317 : BitVec 32 := Scalar.divsi v315 c1_i32_206
  let v318 : BitVec 32 := Scalar.muli v317 c1_i32_206
  let v319 : BitVec 32 := Scalar.addi c0_i32_204 v318
  let c1_i32_208 : BitVec 32 := 1#32
  let arg15 : BitVec 32 := Scf.iv v319 c1_i32_208 k0_t5
  let v323 : Index := Scalar.indexCast arg15
  let c0_213 : Index := 0#32
  let c0_214 : Index := 0#32
  ![v323.toNat, 0, 0]
@[reducible] def k0_t6_loop : Scf.Loop 32 :=
  let c0_i32_216 : BitVec 32 := 0#32
  let c16_i32_217 : BitVec 32 := 16#32
  let v326 : BitVec 32 := Scalar.addi c0_i32_216 c16_i32_217
  let c1_i32_218 : BitVec 32 := 1#32
  ⟨c0_i32_216, v326, c1_i32_218⟩
def k0_off18 (k0_t2 : Fin k0_t2_loop.trips) (k0_t6 : Fin k0_t6_loop.trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c0_i32_216 : BitVec 32 := 0#32
  let c1_i32_218 : BitVec 32 := 1#32
  let arg17 : BitVec 32 := Scf.iv c0_i32_216 c1_i32_218 k0_t6
  let v328 : BitVec 32 := Scalar.addi v314 arg17
  let v329 : Index := Scalar.indexCast v328
  let c0_220 : Index := 0#32
  ![v329.toNat, 0]
def k0_off19 (k0_t2 : Fin k0_t2_loop.trips) (k0_t5 : Fin (k0_t5_loop k0_t2).trips) (k0_t6 : Fin k0_t6_loop.trips) : Fin 2 → Nat :=
  let c0_i32_204 : BitVec 32 := 0#32
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let v315 : BitVec 32 := Scalar.subi v314 c0_i32_204
  let c1_i32_206 : BitVec 32 := 1#32
  let v317 : BitVec 32 := Scalar.divsi v315 c1_i32_206
  let v318 : BitVec 32 := Scalar.muli v317 c1_i32_206
  let v319 : BitVec 32 := Scalar.addi c0_i32_204 v318
  let c1_i32_208 : BitVec 32 := 1#32
  let arg15 : BitVec 32 := Scf.iv v319 c1_i32_208 k0_t5
  let v332 : Index := Scalar.indexCast arg15
  let c0_i32_216 : BitVec 32 := 0#32
  let c1_i32_218 : BitVec 32 := 1#32
  let arg17 : BitVec 32 := Scf.iv c0_i32_216 c1_i32_218 k0_t6
  let v331 : BitVec 32 := Scalar.addi v314 arg17
  let v333 : Index := Scalar.indexCast v331
  ![v332.toNat, v333.toNat]
@[reducible] def k0_t7_loop : Scf.Loop 32 :=
  let c0_i32_209 : BitVec 32 := 0#32
  let c8_i32_210 : BitVec 32 := 8#32
  let v322 : BitVec 32 := Scalar.addi c0_i32_209 c8_i32_210
  let c1_i32_211 : BitVec 32 := 1#32
  ⟨c0_i32_209, v322, c1_i32_211⟩
def k0_off20 (k0_t2 : Fin k0_t2_loop.trips) (k0_t7 : Fin k0_t7_loop.trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let v324 : BitVec 32 := Scalar.addi v314 v323
  let v325 : Index := Scalar.indexCast v324
  let c0_214 : Index := 0#32
  ![v325.toNat, 0]
def k0_off21 (k0_t2 : Fin k0_t2_loop.trips) (k0_t7 : Fin k0_t7_loop.trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let v324 : BitVec 32 := Scalar.addi v314 v323
  let v335 : Index := Scalar.indexCast v324
  let v336 : Index := Scalar.indexCast v324
  ![v335.toNat, v336.toNat]
@[reducible] def k0_t8_loop (k0_t7 : Fin k0_t7_loop.trips) : Scf.Loop 32 :=
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let c1_i32_217 : BitVec 32 := 1#32
  let v340 : BitVec 32 := Scalar.addi v323 c1_i32_217
  let c16_i32_218 : BitVec 32 := 16#32
  let v341 : BitVec 32 := Scalar.subi c16_i32_218 v340
  let c1_i32_220 : BitVec 32 := 1#32
  let v343 : BitVec 32 := Scalar.divsi v341 c1_i32_220
  let v344 : BitVec 32 := Scalar.muli v343 c1_i32_220
  let v345 : BitVec 32 := Scalar.addi v340 v344
  let c1_i32_221 : BitVec 32 := 1#32
  ⟨v340, v345, c1_i32_221⟩
def k0_off22 (k0_t2 : Fin k0_t2_loop.trips) (k0_t7 : Fin k0_t7_loop.trips) (k0_t8 : Fin (k0_t8_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let c1_i32_217 : BitVec 32 := 1#32
  let v340 : BitVec 32 := Scalar.addi v323 c1_i32_217
  let c1_i32_221 : BitVec 32 := 1#32
  let arg16 : BitVec 32 := Scf.iv v340 c1_i32_221 k0_t8
  let v405 : BitVec 32 := Scalar.addi v314 arg16
  let v406 : Index := Scalar.indexCast v405
  let c0_243 : Index := 0#32
  ![v406.toNat, 0]
def k0_off23 (k0_t2 : Fin k0_t2_loop.trips) (k0_t7 : Fin k0_t7_loop.trips) (k0_t8 : Fin (k0_t8_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let v324 : BitVec 32 := Scalar.addi v314 v323
  let v409 : Index := Scalar.indexCast v324
  let c1_i32_217 : BitVec 32 := 1#32
  let v340 : BitVec 32 := Scalar.addi v323 c1_i32_217
  let c1_i32_221 : BitVec 32 := 1#32
  let arg16 : BitVec 32 := Scf.iv v340 c1_i32_221 k0_t8
  let v408 : BitVec 32 := Scalar.addi v314 arg16
  let v410 : Index := Scalar.indexCast v408
  ![v409.toNat, v410.toNat]
@[reducible] def k0_t9_loop (k0_t7 : Fin k0_t7_loop.trips) : Scf.Loop 32 :=
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let c1_i32_217 : BitVec 32 := 1#32
  let v340 : BitVec 32 := Scalar.addi v323 c1_i32_217
  let c16_i32_218 : BitVec 32 := 16#32
  let v341 : BitVec 32 := Scalar.subi c16_i32_218 v340
  let c1_i32_220 : BitVec 32 := 1#32
  let v343 : BitVec 32 := Scalar.divsi v341 c1_i32_220
  let v344 : BitVec 32 := Scalar.muli v343 c1_i32_220
  let v345 : BitVec 32 := Scalar.addi v340 v344
  let v342 : BitVec 32 := Scalar.addi v340 v341
  let c1_i32_222 : BitVec 32 := 1#32
  ⟨v345, v342, c1_i32_222⟩
def k0_off24 (k0_t2 : Fin k0_t2_loop.trips) (k0_t7 : Fin k0_t7_loop.trips) (k0_t9 : Fin (k0_t9_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let c1_i32_217 : BitVec 32 := 1#32
  let v340 : BitVec 32 := Scalar.addi v323 c1_i32_217
  let c16_i32_218 : BitVec 32 := 16#32
  let v341 : BitVec 32 := Scalar.subi c16_i32_218 v340
  let c1_i32_220 : BitVec 32 := 1#32
  let v343 : BitVec 32 := Scalar.divsi v341 c1_i32_220
  let v344 : BitVec 32 := Scalar.muli v343 c1_i32_220
  let v345 : BitVec 32 := Scalar.addi v340 v344
  let c1_i32_222 : BitVec 32 := 1#32
  let arg16 : BitVec 32 := Scf.iv v345 c1_i32_222 k0_t9
  let v405 : BitVec 32 := Scalar.addi v314 arg16
  let v406 : Index := Scalar.indexCast v405
  let c0_243 : Index := 0#32
  ![v406.toNat, 0]
def k0_off25 (k0_t2 : Fin k0_t2_loop.trips) (k0_t7 : Fin k0_t7_loop.trips) (k0_t9 : Fin (k0_t9_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let v324 : BitVec 32 := Scalar.addi v314 v323
  let v409 : Index := Scalar.indexCast v324
  let c1_i32_217 : BitVec 32 := 1#32
  let v340 : BitVec 32 := Scalar.addi v323 c1_i32_217
  let c16_i32_218 : BitVec 32 := 16#32
  let v341 : BitVec 32 := Scalar.subi c16_i32_218 v340
  let c1_i32_220 : BitVec 32 := 1#32
  let v343 : BitVec 32 := Scalar.divsi v341 c1_i32_220
  let v344 : BitVec 32 := Scalar.muli v343 c1_i32_220
  let v345 : BitVec 32 := Scalar.addi v340 v344
  let c1_i32_222 : BitVec 32 := 1#32
  let arg16 : BitVec 32 := Scf.iv v345 c1_i32_222 k0_t9
  let v408 : BitVec 32 := Scalar.addi v314 arg16
  let v410 : Index := Scalar.indexCast v408
  ![v409.toNat, v410.toNat]
def k0_off26 (k0_t2 : Fin k0_t2_loop.trips) (k0_t7 : Fin k0_t7_loop.trips) : Fin 3 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_213 : BitVec 32 := 2#32
  let c0_i32_209 : BitVec 32 := 0#32
  let c1_i32_211 : BitVec 32 := 1#32
  let arg15 : BitVec 32 := Scf.iv c0_i32_209 c1_i32_211 k0_t7
  let v323 : BitVec 32 := Scalar.muli c2_i32_213 arg15
  let v324 : BitVec 32 := Scalar.addi v314 v323
  let v348 : Index := Scalar.indexCast v324
  let c0_223 : Index := 0#32
  let c0_224 : Index := 0#32
  ![v348.toNat, 0, 0]
def k0_off27 (k0_t2 : Fin k0_t2_loop.trips) (k0_t7 : Fin k0_t7_loop.trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let v361 : BitVec 32 := Scalar.addi v314 v360
  let v362 : Index := Scalar.indexCast v361
  let c0_228 : Index := 0#32
  ![v362.toNat, 0]
def k0_off28 (k0_t2 : Fin k0_t2_loop.trips) (k0_t7 : Fin k0_t7_loop.trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let v361 : BitVec 32 := Scalar.addi v314 v360
  let v372 : Index := Scalar.indexCast v361
  let v373 : Index := Scalar.indexCast v361
  ![v372.toNat, v373.toNat]
@[reducible] def k0_t10_loop (k0_t7 : Fin k0_t7_loop.trips) : Scf.Loop 32 :=
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let c1_i32_231 : BitVec 32 := 1#32
  let v377 : BitVec 32 := Scalar.addi v360 c1_i32_231
  let c16_i32_232 : BitVec 32 := 16#32
  let v378 : BitVec 32 := Scalar.subi c16_i32_232 v377
  let c1_i32_234 : BitVec 32 := 1#32
  let v380 : BitVec 32 := Scalar.divsi v378 c1_i32_234
  let v381 : BitVec 32 := Scalar.muli v380 c1_i32_234
  let v382 : BitVec 32 := Scalar.addi v377 v381
  let c1_i32_235 : BitVec 32 := 1#32
  ⟨v377, v382, c1_i32_235⟩
def k0_off29 (k0_t2 : Fin k0_t2_loop.trips) (k0_t7 : Fin k0_t7_loop.trips) (k0_t10 : Fin (k0_t10_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let c1_i32_231 : BitVec 32 := 1#32
  let v377 : BitVec 32 := Scalar.addi v360 c1_i32_231
  let c1_i32_235 : BitVec 32 := 1#32
  let arg16 : BitVec 32 := Scf.iv v377 c1_i32_235 k0_t10
  let v405 : BitVec 32 := Scalar.addi v314 arg16
  let v406 : Index := Scalar.indexCast v405
  let c0_243 : Index := 0#32
  ![v406.toNat, 0]
def k0_off30 (k0_t2 : Fin k0_t2_loop.trips) (k0_t7 : Fin k0_t7_loop.trips) (k0_t10 : Fin (k0_t10_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let v361 : BitVec 32 := Scalar.addi v314 v360
  let v409 : Index := Scalar.indexCast v361
  let c1_i32_231 : BitVec 32 := 1#32
  let v377 : BitVec 32 := Scalar.addi v360 c1_i32_231
  let c1_i32_235 : BitVec 32 := 1#32
  let arg16 : BitVec 32 := Scf.iv v377 c1_i32_235 k0_t10
  let v408 : BitVec 32 := Scalar.addi v314 arg16
  let v410 : Index := Scalar.indexCast v408
  ![v409.toNat, v410.toNat]
@[reducible] def k0_t11_loop (k0_t7 : Fin k0_t7_loop.trips) : Scf.Loop 32 :=
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let c1_i32_231 : BitVec 32 := 1#32
  let v377 : BitVec 32 := Scalar.addi v360 c1_i32_231
  let c16_i32_232 : BitVec 32 := 16#32
  let v378 : BitVec 32 := Scalar.subi c16_i32_232 v377
  let c1_i32_234 : BitVec 32 := 1#32
  let v380 : BitVec 32 := Scalar.divsi v378 c1_i32_234
  let v381 : BitVec 32 := Scalar.muli v380 c1_i32_234
  let v382 : BitVec 32 := Scalar.addi v377 v381
  let v379 : BitVec 32 := Scalar.addi v377 v378
  let c1_i32_236 : BitVec 32 := 1#32
  ⟨v382, v379, c1_i32_236⟩
def k0_off31 (k0_t2 : Fin k0_t2_loop.trips) (k0_t7 : Fin k0_t7_loop.trips) (k0_t11 : Fin (k0_t11_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let c1_i32_231 : BitVec 32 := 1#32
  let v377 : BitVec 32 := Scalar.addi v360 c1_i32_231
  let c16_i32_232 : BitVec 32 := 16#32
  let v378 : BitVec 32 := Scalar.subi c16_i32_232 v377
  let c1_i32_234 : BitVec 32 := 1#32
  let v380 : BitVec 32 := Scalar.divsi v378 c1_i32_234
  let v381 : BitVec 32 := Scalar.muli v380 c1_i32_234
  let v382 : BitVec 32 := Scalar.addi v377 v381
  let c1_i32_236 : BitVec 32 := 1#32
  let arg16 : BitVec 32 := Scf.iv v382 c1_i32_236 k0_t11
  let v405 : BitVec 32 := Scalar.addi v314 arg16
  let v406 : Index := Scalar.indexCast v405
  let c0_243 : Index := 0#32
  ![v406.toNat, 0]
def k0_off32 (k0_t2 : Fin k0_t2_loop.trips) (k0_t7 : Fin k0_t7_loop.trips) (k0_t11 : Fin (k0_t11_loop k0_t7).trips) : Fin 2 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let v361 : BitVec 32 := Scalar.addi v314 v360
  let v409 : Index := Scalar.indexCast v361
  let c1_i32_231 : BitVec 32 := 1#32
  let v377 : BitVec 32 := Scalar.addi v360 c1_i32_231
  let c16_i32_232 : BitVec 32 := 16#32
  let v378 : BitVec 32 := Scalar.subi c16_i32_232 v377
  let c1_i32_234 : BitVec 32 := 1#32
  let v380 : BitVec 32 := Scalar.divsi v378 c1_i32_234
  let v381 : BitVec 32 := Scalar.muli v380 c1_i32_234
  let v382 : BitVec 32 := Scalar.addi v377 v381
  let c1_i32_236 : BitVec 32 := 1#32
  let arg16 : BitVec 32 := Scf.iv v382 c1_i32_236 k0_t11
  let v408 : BitVec 32 := Scalar.addi v314 arg16
  let v410 : Index := Scalar.indexCast v408
  ![v409.toNat, v410.toNat]
def k0_off33 (k0_t2 : Fin k0_t2_loop.trips) (k0_t7 : Fin k0_t7_loop.trips) : Fin 3 → Nat :=
  let c0_i32_58 : BitVec 32 := 0#32
  let c1_i32_59 : BitVec 32 := 1#32
  let arg14 : BitVec 32 := Scf.iv c0_i32_58 c1_i32_59 k0_t2
  let c16_i32 : BitVec 32 := 16#32
  let v314 : BitVec 32 := Scalar.muli arg14 c16_i32
  let c2_i32_226 : BitVec 32 := 2#32
  let c0_i32_209 : BitVec 32 := 0#32
  let c1_i32_211 : BitVec 32 := 1#32
  let arg15 : BitVec 32 := Scf.iv c0_i32_209 c1_i32_211 k0_t7
  let v359 : BitVec 32 := Scalar.muli c2_i32_226 arg15
  let c1_i32_227 : BitVec 32 := 1#32
  let v360 : BitVec 32 := Scalar.addi v359 c1_i32_227
  let v361 : BitVec 32 := Scalar.addi v314 v360
  let v385 : Index := Scalar.indexCast v361
  let c0_237 : Index := 0#32
  let c0_238 : Index := 0#32
  ![v385.toNat, 0, 0]
def k0_off34 (k0_t2 : Fin k0_t2_loop.trips) (k0_t7 : Fin k0_t7_loop.trips) : Fin 2 → Nat :=
  let c0_i32_58 : BitVec 32 := 0#32
  let c1_i32_59 : BitVec 32 := 1#32
  let arg14 : BitVec 32 := Scf.iv c0_i32_58 c1_i32_59 k0_t2
  let c8_i32_241 : BitVec 32 := 8#32
  let v399 : BitVec 32 := Scalar.muli arg14 c8_i32_241
  let c0_i32_209 : BitVec 32 := 0#32
  let c1_i32_211 : BitVec 32 := 1#32
  let arg15 : BitVec 32 := Scf.iv c0_i32_209 c1_i32_211 k0_t7
  let v400 : BitVec 32 := Scalar.addi v399 arg15
  let v401 : Index := Scalar.indexCast v400
  let c0_242 : Index := 0#32
  ![v401.toNat, 0]
def k0_off35 (i : grid0.Coords) : Fin 4 → Nat :=
  let arg0 : BitVec 32 := BitVec.ofNat 32 (i 0).val
  let c2_i32 : BitVec 32 := 2#32
  let v0 : BitVec 32 := Scalar.remsi arg0 c2_i32
  let v101 : Index := Scalar.indexCast v0
  let c0_66 : Index := 0#32
  let c0_67 : Index := 0#32
  let c0_68 : Index := 0#32
  ![v101.toNat, 0, 0, 0]
def k0_off36 (i : grid0.Coords) : Fin 4 → Nat :=
  let arg0 : BitVec 32 := BitVec.ofNat 32 (i 0).val
  let c2_i32 : BitVec 32 := 2#32
  let v0 : BitVec 32 := Scalar.remsi arg0 c2_i32
  let v105 : Index := Scalar.indexCast v0
  let c1 : Index := 1#32
  let c0_69 : Index := 0#32
  let c0_70 : Index := 0#32
  ![v105.toNat, 1, 0, 0]
def k0_off37 (i : grid0.Coords) : Fin 4 → Nat :=
  let arg0 : BitVec 32 := BitVec.ofNat 32 (i 0).val
  let c2_i32 : BitVec 32 := 2#32
  let v0 : BitVec 32 := Scalar.remsi arg0 c2_i32
  let v109 : Index := Scalar.indexCast v0
  let c2 : Index := 2#32
  let c0_71 : Index := 0#32
  let c0_72 : Index := 0#32
  ![v109.toNat, 2, 0, 0]
def k0_off38 (i : grid0.Coords) : Fin 4 → Nat :=
  let arg0 : BitVec 32 := BitVec.ofNat 32 (i 0).val
  let c2_i32 : BitVec 32 := 2#32
  let v0 : BitVec 32 := Scalar.remsi arg0 c2_i32
  let v129 : Index := Scalar.indexCast v0
  let c0_83 : Index := 0#32
  let c0_84 : Index := 0#32
  let c128_85 : Index := 128#32
  ![v129.toNat, 0, 0, 128]
def k0_off39 (i : grid0.Coords) : Fin 4 → Nat :=
  let arg0 : BitVec 32 := BitVec.ofNat 32 (i 0).val
  let c2_i32 : BitVec 32 := 2#32
  let v0 : BitVec 32 := Scalar.remsi arg0 c2_i32
  let v133 : Index := Scalar.indexCast v0
  let c1_86 : Index := 1#32
  let c0_87 : Index := 0#32
  let c128_88 : Index := 128#32
  ![v133.toNat, 1, 0, 128]
def k0_off40 (i : grid0.Coords) : Fin 4 → Nat :=
  let arg0 : BitVec 32 := BitVec.ofNat 32 (i 0).val
  let c2_i32 : BitVec 32 := 2#32
  let v0 : BitVec 32 := Scalar.remsi arg0 c2_i32
  let v137 : Index := Scalar.indexCast v0
  let c2_89 : Index := 2#32
  let c0_90 : Index := 0#32
  let c128_91 : Index := 128#32
  ![v137.toNat, 2, 0, 128]
def k0_off41 (i : grid0.Coords) : Fin 4 → Nat :=
  let arg0 : BitVec 32 := BitVec.ofNat 32 (i 0).val
  let c2_i32 : BitVec 32 := 2#32
  let v0 : BitVec 32 := Scalar.remsi arg0 c2_i32
  let v157 : Index := Scalar.indexCast v0
  let c0_101 : Index := 0#32
  let c0_102 : Index := 0#32
  let c256_103 : Index := 256#32
  ![v157.toNat, 0, 0, 256]
def k0_off42 (i : grid0.Coords) : Fin 4 → Nat :=
  let arg0 : BitVec 32 := BitVec.ofNat 32 (i 0).val
  let c2_i32 : BitVec 32 := 2#32
  let v0 : BitVec 32 := Scalar.remsi arg0 c2_i32
  let v161 : Index := Scalar.indexCast v0
  let c1_104 : Index := 1#32
  let c0_105 : Index := 0#32
  let c256_106 : Index := 256#32
  ![v161.toNat, 1, 0, 256]
def k0_off43 (i : grid0.Coords) : Fin 4 → Nat :=
  let arg0 : BitVec 32 := BitVec.ofNat 32 (i 0).val
  let c2_i32 : BitVec 32 := 2#32
  let v0 : BitVec 32 := Scalar.remsi arg0 c2_i32
  let v165 : Index := Scalar.indexCast v0
  let c2_107 : Index := 2#32
  let c0_108 : Index := 0#32
  let c256_109 : Index := 256#32
  ![v165.toNat, 2, 0, 256]
def k0_off44 (i : grid0.Coords) : Fin 4 → Nat :=
  let arg0 : BitVec 32 := BitVec.ofNat 32 (i 0).val
  let c2_i32 : BitVec 32 := 2#32
  let v0 : BitVec 32 := Scalar.remsi arg0 c2_i32
  let v185 : Index := Scalar.indexCast v0
  let c0_119 : Index := 0#32
  let c0_120 : Index := 0#32
  let c384_121 : Index := 384#32
  ![v185.toNat, 0, 0, 384]
def k0_off45 (i : grid0.Coords) : Fin 4 → Nat :=
  let arg0 : BitVec 32 := BitVec.ofNat 32 (i 0).val
  let c2_i32 : BitVec 32 := 2#32
  let v0 : BitVec 32 := Scalar.remsi arg0 c2_i32
  let v189 : Index := Scalar.indexCast v0
  let c1_122 : Index := 1#32
  let c0_123 : Index := 0#32
  let c384_124 : Index := 384#32
  ![v189.toNat, 1, 0, 384]
def k0_off46 (i : grid0.Coords) : Fin 4 → Nat :=
  let arg0 : BitVec 32 := BitVec.ofNat 32 (i 0).val
  let c2_i32 : BitVec 32 := 2#32
  let v0 : BitVec 32 := Scalar.remsi arg0 c2_i32
  let v193 : Index := Scalar.indexCast v0
  let c2_125 : Index := 2#32
  let c0_126 : Index := 0#32
  let c384_127 : Index := 384#32
  ![v193.toNat, 2, 0, 384]
def k0_off47 (i : grid0.Coords) : Fin 4 → Nat :=
  let arg0 : BitVec 32 := BitVec.ofNat 32 (i 0).val
  let c2_i32 : BitVec 32 := 2#32
  let v0 : BitVec 32 := Scalar.remsi arg0 c2_i32
  let v213 : Index := Scalar.indexCast v0
  let c0_137 : Index := 0#32
  let c0_138 : Index := 0#32
  let c512_139 : Index := 512#32
  ![v213.toNat, 0, 0, 512]
def k0_off48 (i : grid0.Coords) : Fin 4 → Nat :=
  let arg0 : BitVec 32 := BitVec.ofNat 32 (i 0).val
  let c2_i32 : BitVec 32 := 2#32
  let v0 : BitVec 32 := Scalar.remsi arg0 c2_i32
  let v217 : Index := Scalar.indexCast v0
  let c1_140 : Index := 1#32
  let c0_141 : Index := 0#32
  let c512_142 : Index := 512#32
  ![v217.toNat, 1, 0, 512]
def k0_off49 (i : grid0.Coords) : Fin 4 → Nat :=
  let arg0 : BitVec 32 := BitVec.ofNat 32 (i 0).val
  let c2_i32 : BitVec 32 := 2#32
  let v0 : BitVec 32 := Scalar.remsi arg0 c2_i32
  let v221 : Index := Scalar.indexCast v0
  let c2_143 : Index := 2#32
  let c0_144 : Index := 0#32
  let c512_145 : Index := 512#32
  ![v221.toNat, 2, 0, 512]
def k0_off50 (i : grid0.Coords) : Fin 4 → Nat :=
  let arg0 : BitVec 32 := BitVec.ofNat 32 (i 0).val
  let c2_i32 : BitVec 32 := 2#32
  let v0 : BitVec 32 := Scalar.remsi arg0 c2_i32
  let v241 : Index := Scalar.indexCast v0
  let c0_155 : Index := 0#32
  let c0_156 : Index := 0#32
  let c640_157 : Index := 640#32
  ![v241.toNat, 0, 0, 640]
def k0_off51 (i : grid0.Coords) : Fin 4 → Nat :=
  let arg0 : BitVec 32 := BitVec.ofNat 32 (i 0).val
  let c2_i32 : BitVec 32 := 2#32
  let v0 : BitVec 32 := Scalar.remsi arg0 c2_i32
  let v245 : Index := Scalar.indexCast v0
  let c1_158 : Index := 1#32
  let c0_159 : Index := 0#32
  let c640_160 : Index := 640#32
  ![v245.toNat, 1, 0, 640]
def k0_off52 (i : grid0.Coords) : Fin 4 → Nat :=
  let arg0 : BitVec 32 := BitVec.ofNat 32 (i 0).val
  let c2_i32 : BitVec 32 := 2#32
  let v0 : BitVec 32 := Scalar.remsi arg0 c2_i32
  let v249 : Index := Scalar.indexCast v0
  let c2_161 : Index := 2#32
  let c0_162 : Index := 0#32
  let c640_163 : Index := 640#32
  ![v249.toNat, 2, 0, 640]
def k0_off53 (i : grid0.Coords) : Fin 4 → Nat :=
  let arg0 : BitVec 32 := BitVec.ofNat 32 (i 0).val
  let c2_i32 : BitVec 32 := 2#32
  let v0 : BitVec 32 := Scalar.remsi arg0 c2_i32
  let v269 : Index := Scalar.indexCast v0
  let c0_173 : Index := 0#32
  let c0_174 : Index := 0#32
  let c768_175 : Index := 768#32
  ![v269.toNat, 0, 0, 768]
def k0_off54 (i : grid0.Coords) : Fin 4 → Nat :=
  let arg0 : BitVec 32 := BitVec.ofNat 32 (i 0).val
  let c2_i32 : BitVec 32 := 2#32
  let v0 : BitVec 32 := Scalar.remsi arg0 c2_i32
  let v273 : Index := Scalar.indexCast v0
  let c1_176 : Index := 1#32
  let c0_177 : Index := 0#32
  let c768_178 : Index := 768#32
  ![v273.toNat, 1, 0, 768]
def k0_off55 (i : grid0.Coords) : Fin 4 → Nat :=
  let arg0 : BitVec 32 := BitVec.ofNat 32 (i 0).val
  let c2_i32 : BitVec 32 := 2#32
  let v0 : BitVec 32 := Scalar.remsi arg0 c2_i32
  let v277 : Index := Scalar.indexCast v0
  let c2_179 : Index := 2#32
  let c0_180 : Index := 0#32
  let c768_181 : Index := 768#32
  ![v277.toNat, 2, 0, 768]
def k0_off56 (i : grid0.Coords) : Fin 4 → Nat :=
  let arg0 : BitVec 32 := BitVec.ofNat 32 (i 0).val
  let c2_i32 : BitVec 32 := 2#32
  let v0 : BitVec 32 := Scalar.remsi arg0 c2_i32
  let v297 : Index := Scalar.indexCast v0
  let c0_191 : Index := 0#32
  let c0_192 : Index := 0#32
  let c896_193 : Index := 896#32
  ![v297.toNat, 0, 0, 896]
def k0_off57 (i : grid0.Coords) : Fin 4 → Nat :=
  let arg0 : BitVec 32 := BitVec.ofNat 32 (i 0).val
  let c2_i32 : BitVec 32 := 2#32
  let v0 : BitVec 32 := Scalar.remsi arg0 c2_i32
  let v301 : Index := Scalar.indexCast v0
  let c1_194 : Index := 1#32
  let c0_195 : Index := 0#32
  let c896_196 : Index := 896#32
  ![v301.toNat, 1, 0, 896]
def k0_off58 (i : grid0.Coords) : Fin 4 → Nat :=
  let arg0 : BitVec 32 := BitVec.ofNat 32 (i 0).val
  let c2_i32 : BitVec 32 := 2#32
  let v0 : BitVec 32 := Scalar.remsi arg0 c2_i32
  let v305 : Index := Scalar.indexCast v0
  let c2_197 : Index := 2#32
  let c0_198 : Index := 0#32
  let c896_199 : Index := 896#32
  ![v305.toNat, 2, 0, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c27_i32 : BitVec 32 := 27#32
  let v0 : BitVec 32 := Scalar.minsi arg0 c27_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c14_i32_4 : BitVec 32 := 14#32
  let c0_i32_5 : BitVec 32 := 0#32
  let v18 : BitVec 1 := Scalar.cmpi .eq c14_i32_4 c0_i32_5
  let c1_i32_6 : BitVec 32 := 1#32
  let v19 : BitVec 32 := Scalar.select v18 c1_i32_6 c14_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c14_i32 : BitVec 32 := 14#32
  let v2 : BitVec 32 := Scalar.divsi v1 c14_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c14_i32 c0_i32_2
  let v9 : BitVec 32 := Scalar.extui v8
  let c0_i32_3 : BitVec 32 := 0#32
  let v10 : BitVec 1 := Scalar.cmpi .slt c14_i32 c0_i32_3
  let v11 : BitVec 32 := Scalar.extui v10
  let v12 : BitVec 32 := Scalar.subi v9 v11
  let v13 : BitVec 1 := Scalar.cmpi .ne v7 v12
  let v14 : BitVec 32 := Scalar.remsi v1 c14_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c14_i32_6 : BitVec 32 := 14#32
  let c0_i32_7 : BitVec 32 := 0#32
  let v19 : BitVec 1 := Scalar.cmpi .eq c14_i32_6 c0_i32_7
  let c1_i32_8 : BitVec 32 := 1#32
  let v20 : BitVec 32 := Scalar.select v19 c1_i32_8 c14_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_4 (i : grid0.Coords) : Fin 3 → Nat :=
  let arg0 : BitVec 32 := BitVec.ofNat 32 (i 0).val
  let c27_i32 : BitVec 32 := 27#32
  let v0 : BitVec 32 := Scalar.minsi arg0 c27_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c14_i32_4 : BitVec 32 := 14#32
  let c0_i32_5 : BitVec 32 := 0#32
  let v18 : BitVec 1 := Scalar.cmpi .eq c14_i32_4 c0_i32_5
  let c1_i32_6 : BitVec 32 := 1#32
  let v19 : BitVec 32 := Scalar.select v18 c1_i32_6 c14_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_5 (i : grid0.Coords) : Fin 3 → Nat :=
  let arg0 : BitVec 32 := BitVec.ofNat 32 (i 0).val
  let c27_i32 : BitVec 32 := 27#32
  let v0 : BitVec 32 := Scalar.minsi arg0 c27_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c14_i32_4 : BitVec 32 := 14#32
  let c0_i32_5 : BitVec 32 := 0#32
  let v18 : BitVec 1 := Scalar.cmpi .eq c14_i32_4 c0_i32_5
  let c1_i32_6 : BitVec 32 := 1#32
  let v19 : BitVec 32 := Scalar.select v18 c1_i32_6 c14_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_6 (i : grid0.Coords) : Fin 3 → Nat :=
  let arg0 : BitVec 32 := BitVec.ofNat 32 (i 0).val
  let c27_i32 : BitVec 32 := 27#32
  let v0 : BitVec 32 := Scalar.minsi arg0 c27_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c14_i32_4 : BitVec 32 := 14#32
  let c0_i32_5 : BitVec 32 := 0#32
  let v18 : BitVec 1 := Scalar.cmpi .eq c14_i32_4 c0_i32_5
  let c1_i32_6 : BitVec 32 := 1#32
  let v19 : BitVec 32 := Scalar.select v18 c1_i32_6 c14_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

abbrev stage0_0 : Fin 1 → Memref sig .tc .smem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3968x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x128x14336 : Shape := ⟨3, ![2, 128, 14336]⟩
abbrev S128x4096 : Shape := ⟨2, ![128, 4096]⟩
abbrev S_ : Shape := ⟨0, ![]⟩
abbrev S2x14336 : Shape := ⟨2, ![2, 14336]⟩
abbrev S2x1x14336 : Shape := ⟨3, ![2, 1, 14336]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x128x1 : Shape := ⟨3, ![1, 128, 1]⟩
abbrev S128x3968 : Shape := ⟨2, ![128, 3968]⟩
abbrev S3968x2x14336 : Shape := ⟨3, ![3968, 2, 14336]⟩
abbrev S2x3968x14336 : Shape := ⟨3, ![2, 3968, 14336]⟩
abbrev S2x64x14336 : Shape := ⟨3, ![2, 64, 14336]⟩

abbrev nBuf : Space → Nat
  | .hbm => 119
  | .vmem => 0
  | .smem => 0
  | _ => 0

abbrev bufTy : (tb : Table) → Fin (tcTables nBuf tb) → BufTy
  | .hbm, ⟨0, _⟩ => ⟨S2x128x14336, .f32⟩
  | .hbm, ⟨1, _⟩ => ⟨S128x4096, .f32⟩
  | .hbm, ⟨2, _⟩ => ⟨S2x128x14336, .f32⟩
  | .hbm, ⟨3, _⟩ => ⟨S_, .f32⟩
  | .hbm, ⟨4, _⟩ => ⟨S2x14336, .f32⟩
  | .hbm, ⟨5, _⟩ => ⟨S2x1x14336, .f32⟩
  | .hbm, ⟨6, _⟩ => ⟨S_, .f32⟩
  | .hbm, ⟨7, _⟩ => ⟨S2x1x14336, .f32⟩
  | .hbm, ⟨8, _⟩ => ⟨S2x1x14336, .i1⟩
  | .hbm, ⟨9, _⟩ => ⟨S_, .f32⟩
  | .hbm, ⟨10, _⟩ => ⟨S2x1x14336, .f32⟩
  | .hbm, ⟨11, _⟩ => ⟨S2x1x14336, .f32⟩
  | .hbm, ⟨12, _⟩ => ⟨S_, .f32⟩
  | .hbm, ⟨13, _⟩ => ⟨S2x1x14336, .f32⟩
  | .hbm, ⟨14, _⟩ => ⟨S2x1x14336, .f32⟩
  | .hbm, ⟨15, _⟩ => ⟨S128x128, .f32⟩
  | .hbm, ⟨16, _⟩ => ⟨S_, .i8⟩
  | .hbm, ⟨17, _⟩ => ⟨S2x128x14336, .i8⟩
  | .hbm, ⟨18, _⟩ => ⟨S_, .f32⟩
  | .hbm, ⟨19, _⟩ => ⟨S2x128x14336, .f32⟩
  | .hbm, ⟨20, _⟩ => ⟨S_, .i32⟩
  | .hbm, ⟨21, _⟩ => ⟨S_, .i32⟩
  | .hbm, ⟨22, _⟩ => ⟨S2x1x14336, .f32⟩
  | .hbm, ⟨23, _⟩ => ⟨S128x128, .f32⟩
  | .hbm, ⟨24, _⟩ => ⟨S_, .i32⟩
  | .hbm, ⟨25, _⟩ => ⟨S_, .i32⟩
  | .hbm, ⟨26, _⟩ => ⟨S2x128x14336, .f32⟩
  | .hbm, ⟨27, _⟩ => ⟨S2x128x14336, .i8⟩
  | .hbm, ⟨28, _⟩ => ⟨S2x128x14336, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S2x1x14336, .f32⟩
  | .hbm, ⟨42, _⟩ => ⟨S2x1x14336, .f32⟩
  | .hbm, ⟨43, _⟩ => ⟨S2x1x14336, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2x1x14336, .f32⟩
  | .hbm, ⟨48, _⟩ => ⟨S2x1x14336, .f32⟩
  | .hbm, ⟨49, _⟩ => ⟨S_, .f32⟩
  | .hbm, ⟨50, _⟩ => ⟨S2x1x14336, .f32⟩
  | .hbm, ⟨51, _⟩ => ⟨S2x1x14336, .f32⟩
  | .hbm, ⟨52, _⟩ => ⟨S2x1x14336, .i32⟩
  | .hbm, ⟨53, _⟩ => ⟨S2x1x14336, .i8⟩
  | .hbm, ⟨54, _⟩ => ⟨S2x1x14336, .i32⟩
  | .hbm, ⟨55, _⟩ => ⟨S2x1x14336, .f32⟩
  | .hbm, ⟨56, _⟩ => ⟨S2x1x14336, .f32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x128, .f32⟩
  | .hbm, ⟨65, _⟩ => ⟨S128, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1, .f32⟩
  | .hbm, ⟨73, _⟩ => ⟨S_, .f32⟩
  | .hbm, ⟨74, _⟩ => ⟨S2x1x14336, .f32⟩
  | .hbm, ⟨75, _⟩ => ⟨S2x1x14336, .f32⟩
  | .hbm, ⟨76, _⟩ => ⟨S2x1x14336, .f32⟩
  | .hbm, ⟨77, _⟩ => ⟨S1x128x1, .f32⟩
  | .hbm, ⟨78, _⟩ => ⟨S2x128x14336, .f32⟩
  | .hbm, ⟨79, _⟩ => ⟨S2x128x14336, .f32⟩
  | .hbm, ⟨80, _⟩ => ⟨S2x128x14336, .f32⟩
  | .hbm, ⟨81, _⟩ => ⟨S2x128x14336, .f32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S2x128x14336, .i8⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S2x128x14336, .f32⟩
  | .hbm, ⟨100, _⟩ => ⟨S_, .i32⟩
  | .hbm, ⟨101, _⟩ => ⟨S_, .i32⟩
  | .hbm, ⟨102, _⟩ => ⟨S128x3968, .f32⟩
  | .hbm, ⟨103, _⟩ => ⟨S3968x2x14336, .f32⟩
  | .hbm, ⟨104, _⟩ => ⟨S2x3968x14336, .f32⟩
  | .hbm, ⟨105, _⟩ => ⟨S2x128x14336, .i32⟩
  | .hbm, ⟨106, _⟩ => ⟨S2x64x14336, .i32⟩
  | .hbm, ⟨107, _⟩ => ⟨S_, .i32⟩
  | .hbm, ⟨108, _⟩ => ⟨S2x64x14336, .i32⟩
  | .hbm, ⟨109, _⟩ => ⟨S2x64x14336, .i32⟩
  | .hbm, ⟨110, _⟩ => ⟨S2x64x14336, .i32⟩
  | .hbm, ⟨111, _⟩ => ⟨S_, .i32⟩
  | .hbm, ⟨112, _⟩ => ⟨S2x64x14336, .i32⟩
  | .hbm, ⟨113, _⟩ => ⟨S2x64x14336, .i32⟩
  | .hbm, ⟨114, _⟩ => ⟨S_, .i32⟩
  | .hbm, ⟨115, _⟩ => ⟨S2x64x14336, .i32⟩
  | .hbm, ⟨116, _⟩ => ⟨S2x64x14336, .i32⟩
  | .hbm, ⟨117, _⟩ => ⟨S2x64x14336, .i32⟩
  | .hbm, ⟨118, _⟩ => ⟨S2x64x14336, .i8⟩
  | _, _ => ⟨S2x128x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev main_while0c_c_15 : Ref sig .tc := ⟨.hbm, 29, rfl⟩
abbrev main_while0c_v26 : Ref sig .tc := ⟨.hbm, 30, rfl⟩
abbrev main_while0b_c_15 : Ref sig .tc := ⟨.hbm, 31, rfl⟩
abbrev main_while0b_v26 : Ref sig .tc := ⟨.hbm, 32, rfl⟩
abbrev main_while0b_c_16 : Ref sig .tc := ⟨.hbm, 33, rfl⟩
abbrev main_while0b_v27 : Ref sig .tc := ⟨.hbm, 34, rfl⟩
abbrev main_while0b_v28 : Ref sig .tc := ⟨.hbm, 35, rfl⟩
abbrev main_while0b_c_17 : Ref sig .tc := ⟨.hbm, 36, rfl⟩
abbrev main_while0b_v29 : Ref sig .tc := ⟨.hbm, 37, rfl⟩
abbrev main_while0b_v30 : Ref sig .tc := ⟨.hbm, 38, rfl⟩
abbrev main_while0b_c_18 : Ref sig .tc := ⟨.hbm, 39, rfl⟩
abbrev main_while0b_c_19 : Ref sig .tc := ⟨.hbm, 40, rfl⟩
abbrev main_while0b_v31 : Ref sig .tc := ⟨.hbm, 41, rfl⟩
abbrev main_while0b_v32 : Ref sig .tc := ⟨.hbm, 42, rfl⟩
abbrev main_while0b_v33 : Ref sig .tc := ⟨.hbm, 43, rfl⟩
abbrev main_while0b_cst_20 : Ref sig .tc := ⟨.hbm, 44, rfl⟩
abbrev main_while0b_cst_21 : Ref sig .tc := ⟨.hbm, 45, rfl⟩
abbrev main_while0b_call2_v0 : Ref sig .tc := ⟨.hbm, 46, rfl⟩
abbrev main_while0b_call2_v1 : Ref sig .tc := ⟨.hbm, 47, rfl⟩
abbrev main_while0b_call2_v2 : Ref sig .tc := ⟨.hbm, 48, rfl⟩
abbrev main_while0b_call2_v3 : Ref sig .tc := ⟨.hbm, 49, rfl⟩
abbrev main_while0b_call2_v4 : Ref sig .tc := ⟨.hbm, 50, rfl⟩
abbrev main_while0b_v34 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_call3_c : Ref sig .tc := ⟨.hbm, 57, rfl⟩
abbrev main_while0b_call3_v0 : Ref sig .tc := ⟨.hbm, 58, rfl⟩
abbrev main_while0b_call3_v1 : Ref sig .tc := ⟨.hbm, 59, rfl⟩
abbrev main_while0b_call3_c_0 : Ref sig .tc := ⟨.hbm, 60, rfl⟩
abbrev main_while0b_call3_v2 : Ref sig .tc := ⟨.hbm, 61, rfl⟩
abbrev main_while0b_call3_v3 : Ref sig .tc := ⟨.hbm, 62, rfl⟩
abbrev main_while0b_call3_c_1 : Ref sig .tc := ⟨.hbm, 63, rfl⟩
abbrev main_while0b_call3_v4 : Ref sig .tc := ⟨.hbm, 64, rfl⟩
abbrev main_while0b_v40 : Ref sig .tc := ⟨.hbm, 65, rfl⟩
abbrev main_while0b_call4_c : Ref sig .tc := ⟨.hbm, 66, rfl⟩
abbrev main_while0b_call4_v0 : Ref sig .tc := ⟨.hbm, 67, rfl⟩
abbrev main_while0b_call4_v1 : Ref sig .tc := ⟨.hbm, 68, rfl⟩
abbrev main_while0b_call4_c_0 : Ref sig .tc := ⟨.hbm, 69, rfl⟩
abbrev main_while0b_call4_v2 : Ref sig .tc := ⟨.hbm, 70, rfl⟩
abbrev main_while0b_call4_v3 : Ref sig .tc := ⟨.hbm, 71, rfl⟩
abbrev main_while0b_call4_v4 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_c_22 : Ref sig .tc := ⟨.hbm, 82, rfl⟩
abbrev main_while0b_v50 : Ref sig .tc := ⟨.hbm, 83, rfl⟩
abbrev main_while0b_v51 : Ref sig .tc := ⟨.hbm, 84, rfl⟩
abbrev main_while0b_c_23 : Ref sig .tc := ⟨.hbm, 85, rfl⟩
abbrev main_while0b_v52 : Ref sig .tc := ⟨.hbm, 86, rfl⟩
abbrev main_while0b_v53 : Ref sig .tc := ⟨.hbm, 87, rfl⟩
abbrev main_while0b_c_24 : Ref sig .tc := ⟨.hbm, 88, rfl⟩
abbrev main_while0b_c_25 : Ref sig .tc := ⟨.hbm, 89, rfl⟩
abbrev main_while0b_v54 : Ref sig .tc := ⟨.hbm, 90, rfl⟩
abbrev main_while0b_c_26 : Ref sig .tc := ⟨.hbm, 91, rfl⟩
abbrev main_while0b_v55 : Ref sig .tc := ⟨.hbm, 92, rfl⟩
abbrev main_while0b_v56 : Ref sig .tc := ⟨.hbm, 93, rfl⟩
abbrev main_while0b_c_27 : Ref sig .tc := ⟨.hbm, 94, rfl⟩
abbrev main_while0b_v57 : Ref sig .tc := ⟨.hbm, 95, rfl⟩
abbrev main_while0b_v58 : Ref sig .tc := ⟨.hbm, 96, rfl⟩
abbrev main_while0b_c_28 : Ref sig .tc := ⟨.hbm, 97, rfl⟩
abbrev main_while0b_c_29 : Ref sig .tc := ⟨.hbm, 98, rfl⟩
abbrev main_while0b_v59 : Ref sig .tc := ⟨.hbm, 99, rfl⟩
abbrev main_while0b_c_30 : Ref sig .tc := ⟨.hbm, 100, rfl⟩
abbrev main_while0b_v60 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_c_6 : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_c_7 : Ref sig .tc := ⟨.hbm, 111, rfl⟩
abbrev main_v20 : Ref sig .tc := ⟨.hbm, 112, rfl⟩
abbrev main_v21 : Ref sig .tc := ⟨.hbm, 113, rfl⟩
abbrev main_c_8 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩

abbrev nD : Nat := 1
abbrev τ : Topo := Topo.v7x

variable {F : FTy → Type} [FloatOps F]

abbrev main_while0_count : Scf.Loop 32 := ⟨0#32, 128#32, 1#32⟩
-- ==== Proof.Hand.KernelFrame.lean ====
module

public import proofs.«01_k».proof.Proof.Gen.Kernel.Frame
public import proofs.«01_k».proof.Proof.Gen.Kernel.Loops
public import Idealize.ShloMosaic.Lib.LoopRemainder

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Body

variable (𝒱 : Variants) (c : Dev nD) (bd : Option 𝒱.V) (E : Set ℕ) (i : grid0.Coords)
  (arg1 : Memref sig .tc .smem S128x128 .f32) (harg1 : arg1.IsWhole) (arg2 : Memref sig .tc .vmem S1x128x1024 .f32) (harg2 : arg2.IsWhole)
  (arg3 : Memref sig .tc .vmem S128x4096 .f32) (harg3 : arg3.IsWhole) (arg4 : Memref sig .tc .vmem S1x3968x1024 .f32) (harg4 : arg4.IsWhole)
  (arg5 : Memref sig .tc .vmem S1x128x1024 .f32) (harg5 : arg5.IsWhole) (arg6 : Memref sig .tc .vmem S1x64x1024 .i8) (harg6 : arg6.IsWhole)
  (arg7 : Memref sig .tc .vmem S1x1x1024 .f32) (harg7 : arg7.IsWhole) (arg8 : Memref sig .tc .vmem S2x3968x256 .bf16) (harg8 : arg8.IsWhole)
  (arg9 : Memref sig .tc .vmem S2x3x128x1024 .bf16) (harg9 : arg9.IsWhole) (arg10 : Memref sig .tc .vmem S1088x128 .f32) (harg10 : arg10.IsWhole)
  (arg11 : Memref sig .tc .vmem S1088x128 .f32) (harg11 : arg11.IsWhole) (arg12 : Memref sig .tc .vmem S128x8x128 .f32) (harg12 : arg12.IsWhole)
  (arg13 : Memref sig .tc .vmem S576x128 .i32) (harg13 : arg13.IsWhole)

/-- The buffer under `a` held whole at contents `X`. -/
abbrev Own {sp : Space} {s : Shape} {e : EltTy} (a : Memref sig .tc sp s e) (X : BufTy.Contents (Elt F) a.view.ty) : sProp 𝕄G :=
  (a.view.loc (c : Thread nD τ) ↦[a.view.set]{fullShare} X)

set_option warn.classDefReducibility false in
/-- The innermost left-looking loop. -/
@[sl_loop] def loopInv4 (v0 : BitVec 32) (v56 : FVec F S8x128 .f32) (v85 : FVec F S1x128 .f32) (k0_t2 : Fin k0_t2_loop.trips) (k0_t3 : Fin (k0_t3_loop k0_t2).trips) (v324 : Vec F S1x8x128 .f32)
    (init : BitVec 32) (X1 : BufTy.Contents (Elt F) arg1.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 k0_t2 k0_t3 v324 init where
  inv k acc := iprop(Own c arg1 X1 ∗ (∃ X, Own c arg10 X))
  step k acc := by
    unfold k0_t4_body
    iintro ⟨H1, ⟨%Y10, H10⟩⟩
    sl_exec
    sl_step
    sl_close

set_option warn.classDefReducibility false in
/-- The left-looking loop over the earlier error columns. -/
@[sl_loop] def loopInv3 (v0 : BitVec 32) (v56 : FVec F S8x128 .f32) (v85 : FVec F S1x128 .f32) (k0_t2 : Fin k0_t2_loop.trips)
    (init : BitVec 32) (X1 : BufTy.Contents (Elt F) arg1.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 k0_t2 init where
  inv k acc := iprop(Own c arg1 X1 ∗ (∃ X, Own c arg12 X) ∗ (∃ X, Own c arg10 X))
  step k acc := by
    unfold k0_t3_body
    iintro ⟨H1, ⟨%Y12, H12⟩, ⟨%Y10, H10⟩⟩
    sl_exec
    sl_step
    sl_close

set_option warn.classDefReducibility false in
/-- The loop over the later columns of the panel, for an even column. -/
@[sl_loop] def loopInv8 (v56 : FVec F S8x128 .f32) (k0_t2 : Fin k0_t2_loop.trips) (v314 : BitVec 32) (c0_i32_209 : BitVec 32) (c1_i32_211 : BitVec 32) (k0_t7 : Fin k0_t7_loop.trips) (v326 : Vec F S8x128 .f32) (v337 : Elt F .f32)
    (init : BitVec 32) (X1 : BufTy.Contents (Elt F) arg1.view.ty) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v56 k0_t2 v314 c0_i32_209 c1_i32_211 k0_t7 v326 v337 init where
  inv k acc := iprop(Own c arg1 X1 ∗ (∃ X, Own c arg10 X))
  step k acc := by
    unfold k0_t8_body
    iintro ⟨H1, ⟨%Y10, H10⟩⟩
    sl_exec
    sl_step
    sl_close

set_option warn.classDefReducibility false in
/-- The loop over the later columns of the panel, for an odd column. -/
@[sl_loop] def loopInv10 (v56 : FVec F S8x128 .f32) (k0_t2 : Fin k0_t2_loop.trips) (arg14 : BitVec 32) (v314 : BitVec 32) (k0_t7 : Fin k0_t7_loop.trips) (arg15 : BitVec 32) (v358 : IVec S8x128 32) (v360 : BitVec 32) (v361 : BitVec 32) (v363 : Vec F S8x128 .f32) (v374 : Elt F .f32)
    (init : BitVec 32) (X1 : BufTy.Contents (Elt F) arg1.view.ty) :
    LoopInvTy_k0_t10 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v56 k0_t2 arg14 v314 k0_t7 arg15 v358 v360 v361 v363 v374 init where
  inv k acc := iprop(Own c arg1 X1 ∗ (∃ X, Own c arg10 X))
  step k acc := by
    unfold k0_t10_body
    iintro ⟨H1, ⟨%Y10, H10⟩⟩
    sl_exec
    sl_step
    sl_close

set_option warn.classDefReducibility false in
/-- The loop over the pairs of a panel. -/
@[sl_loop] def loopInv7 (v0 : BitVec 32) (v56 : FVec F S8x128 .f32) (v85 : FVec F S1x128 .f32) (k0_t2 : Fin k0_t2_loop.trips) (arg14 : BitVec 32) (v314 : BitVec 32) (X1 : BufTy.Contents (Elt F) arg1.view.ty) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 k0_t2 arg14 v314 where
  inv k acc := iprop(Own c arg1 X1 ∗ (∃ X, Own c arg10 X) ∗ (∃ X, Own c arg11 X) ∗ (∃ X, Own c arg12 X) ∗ (∃ X, Own c arg13 X))
  step k acc := by
    unfold k0_t7_body
    iintro ⟨H1, ⟨%Y10, H10⟩, ⟨%Y11, H11⟩, ⟨%Y12, H12⟩, ⟨%Y13, H13⟩⟩
    sl_exec
    sl_step
    sl_close

set_option warn.classDefReducibility false in
/-- The loop over the panels. -/
@[sl_loop] def loopInv2 (v0 : BitVec 32) (v56 : FVec F S8x128 .f32) (v85 : FVec F S1x128 .f32) (X1 : BufTy.Contents (Elt F) arg1.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 where
  inv k acc := iprop(Own c arg1 X1 ∗ (∃ X, Own c arg10 X) ∗ (∃ X, Own c arg11 X) ∗ (∃ X, Own c arg12 X) ∗ (∃ X, Own c arg13 X))
  step k acc := by
    unfold k0_t2_body
    iintro ⟨H1, ⟨%Y10, H10⟩, ⟨%Y11, H11⟩, ⟨%Y12, H12⟩, ⟨%Y13, H13⟩⟩
    sl_exec
    sl_step
    sl_close

/-- The body leaves its input windows as they were, whatever the other buffers hold, where the coordinate decides the two
    conditions of the body. -/
theorem sound_kernel (hcond : (Scalar.cmpi .ne (Scalar.extui (Scalar.cmpi .eq (BitVec.ofNat 32 (i 0).val) 0#32) : BitVec 32) 0#32 = 1#1 ∧ ¬ k0_cond2 i = 1#1)
      ∨ (¬ Scalar.cmpi .ne (Scalar.extui (Scalar.cmpi .eq (BitVec.ofNat 32 (i 0).val) 0#32) : BitVec 32) 0#32 = 1#1 ∧ k0_cond2 i = 1#1))
    (x1 : Vec F S128x128 .f32) (x2 : Vec F S1x128x1024 .f32) (x3 : Vec F S128x4096 .f32) (K : PUnit → sProp 𝕄G) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) 𝒱 c bd) E (cc0_gptq_block i arg1 harg1 arg2 harg2 arg3 harg3 arg4 harg4 arg5 harg5 arg6 harg6 arg7 harg7 arg8 harg8 arg9 harg9 arg10 harg10 arg11 harg11 arg12 harg12 arg13 harg13) K := by
  rcases hcond with ⟨h1, h2⟩ | ⟨h1, h2⟩ <;>
  · simp only [cc0_gptq_block_eq_skeleton]; unfold cc0_gptq_block_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    subst hf1 hf2 hf3
    sl_exec (disch := first | sl_exact h1 | sl_exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]; · (iexists _, _; isplitr; swap; iexact H4; ipureintro; rfl)
    isplitl [H5]; · (iexists _, _; isplitr; swap; iexact H5; ipureintro; rfl)
    isplitl [H6]; · (iexists _, _; isplitr; swap; iexact H6; ipureintro; rfl)
    isplitl [H7]; · (iexists _, _; isplitr; swap; iexact H7; ipureintro; rfl)
    isplitl [H8]; · (iexists _, _; isplitr; swap; iexact H8; ipureintro; rfl)
    isplitl [H9]; · (iexists _, _; isplitr; swap; iexact H9; ipureintro; rfl)
    isplitl [H10]; · (iexists _, _; isplitr; swap; iexact H10; ipureintro; rfl)
    isplitl [H11]; · (iexists _, _; isplitr; swap; iexact H11; ipureintro; rfl)
    isplitl [H12]; · (iexists _, _; isplitr; swap; iexact H12; ipureintro; rfl)
    iexists _, _; isplitr; swap; iexact H13; ipureintro; rfl

end Body

variable (m : (ℓ : Loc nD τ sig) → Buf (Elt F) ℓ) (ρ : Dev nD → PrngReg)

/-- The two conditions of the body at a grid point: the first holds at point 0 alone, the second at every other. -/
theorem conds (i : grid0.Coords) :
    (Scalar.cmpi .ne (Scalar.extui (Scalar.cmpi .eq (BitVec.ofNat 32 (i 0).val) 0#32) : BitVec 32) 0#32 = 1#1 ∧ ¬ k0_cond2 i = 1#1)
      ∨ (¬ Scalar.cmpi .ne (Scalar.extui (Scalar.cmpi .eq (BitVec.ofNat 32 (i 0).val) 0#32) : BitVec 32) 0#32 = 1#1 ∧ k0_cond2 i = 1#1) := by
  unfold k0_cond2
  generalize hj : i 0 = j
  clear hj
  revert j
  decide +kernel

/-- The four outputs: a frame says nothing of them. -/
def forgets0 : Fin 7 → Bool := fun w => decide (3 ≤ w.val)

/-- The proof data on core `c`: the arrays as the region finds them, each input's buffer at its block after the body, the outputs
    unnamed, and the two inputs that read one array at their shares of it. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨n + 3, h⟩ => Pipeline.Dat.unnamed (cfg := cfg0) ⟨n + 3, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch buffers and the generator register, one by one. -/
theorem PhiA_eq (c : Dev nD) : (Pipeline.ΦA spec0 c : sProp 𝕄G)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d))
      ∗ ∃ r, prngReg c r) := by
  unfold Pipeline.ΦA
  rw [scopedRest0_eq]
  simp only [owns_whole]; try rfl

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (Pipeline.ΦA spec0 c : sProp 𝕄G) from rfl, show (dats m 0 c).Φ t.castSucc = (Pipeline.ΦA spec0 c : sProp 𝕄G) from rfl,
    show (dats m 0 c).owesAt () t.succ = (dats m 0 c).owesAt () t.castSucc from rfl,
    after0_0, after0_1, after0_2, PhiA_eq]
  iintro ⟨⟨⟨S0, S1, S2, S3, S4, S5⟩, Hg⟩, Ho, ⟨%d0, H0⟩, ⟨%d1, H1⟩, ⟨%d2, H2⟩, H3, H4, H5, H6⟩
  iapply (sound_kernel Variants.none c none Set.univ (grid0.coords t) _ _ _ _ _ _ _ _ _ _ _ _ _ _ _ _ _ _ _ _ _ _ _ _ _ _ (conds _) (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body obligation with the outputs forgotten. -/
theorem body_obligation (c : Dev nD) : Pipeline.BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: every execution ends with every semaphore at zero and the inputs' arrays as they were. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- THE FRAME: the run ends with the two arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(((dats m 0 c).toRForget_arrAt_iff (fgt := forgets0) (w := 1) rfl _ _).1 ((h.1 c).1 1)).trans
        (((dats m 0 c).arrAt_in 1 rfl _).trans ((A_eq m c 1).trans (V_main_arg0 m c))),
     (((dats m 0 c).toRForget_arrAt_iff (fgt := forgets0) (w := 2) rfl _ _).1 ((h.1 c).1 2)).trans
        (((dats m 0 c).arrAt_in 2 rfl _).trans ((A_eq m c 2).trans (V_main_arg1 m c)))⟩, h.2⟩) (run_main m ρ)

end Cert.Kernel.Hand

end
-- ==== Proof.Hand.QLoops.lean ====
module

public import proofs.«01_k».proof.Proof.Gen.KernelIdeal.Frame
public import proofs.«01_k».proof.Proof.Gen.KernelIdeal.Loops
public import Idealize.ShloMosaic.Lib.LoopRemainder

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords)
  (arg1 : Memref sig .tc .smem S128x128 .f32) (harg1 : arg1.IsWhole) (arg2 : Memref sig .tc .vmem S1x128x1024 .f32) (harg2 : arg2.IsWhole)
  (arg3 : Memref sig .tc .vmem S128x4096 .f32) (harg3 : arg3.IsWhole) (arg4 : Memref sig .tc .vmem S1x3968x1024 .f32) (harg4 : arg4.IsWhole)
  (arg5 : Memref sig .tc .vmem S1x128x1024 .f32) (harg5 : arg5.IsWhole) (arg6 : Memref sig .tc .vmem S1x64x1024 .i8) (harg6 : arg6.IsWhole)
  (arg7 : Memref sig .tc .vmem S1x1x1024 .f32) (harg7 : arg7.IsWhole) (arg8 : Memref sig .tc .vmem S2x3968x256 .bf16) (harg8 : arg8.IsWhole)
  (arg9 : Memref sig .tc .vmem S2x3x128x1024 .bf16) (harg9 : arg9.IsWhole) (arg10 : Memref sig .tc .vmem S1088x128 .f32) (harg10 : arg10.IsWhole)
  (arg11 : Memref sig .tc .vmem S1088x128 .f32) (harg11 : arg11.IsWhole) (arg12 : Memref sig .tc .vmem S128x8x128 .f32) (harg12 : arg12.IsWhole)
  (arg13 : Memref sig .tc .vmem S576x128 .i32) (harg13 : arg13.IsWhole)

/-- The buffer under `a` held whole at contents `X`. -/
abbrev Own {sp : Space} {s : Shape} {e : EltTy} (a : Memref sig .tc sp s e) (X : BufTy.Contents (Elt F) a.view.ty) : sProp 𝕄G :=
  (a.view.loc (c : Thread nD τ) ↦[a.view.set]{fullShare} X)

/-- `f` applied for the trips `0, …, k - 1` of a loop of `n` trips, in order. -/
def iter {α : Type*} (n : ℕ) (f : Fin n → α → α) (a : α) : ℕ → α
  | 0 => a
  | k + 1 => if h : k < n then f ⟨k, h⟩ (iter n f a k) else iter n f a k

theorem iter_zero {α : Type*} (n : ℕ) (f : Fin n → α → α) (a : α) : iter n f a 0 = a := rfl

theorem iter_succ {α : Type*} (n : ℕ) (f : Fin n → α → α) (a : α) (k : Fin n) :
    iter n f a (k.val + 1) = f k (iter n f a k.val) := by
  rw [iter]; exact dif_pos k.isLt

/-- `x` before the first trip, `y` after one. -/
abbrev atTrip0 {α : Type*} : ℕ → α → α → α
  | 0, x, _ => x
  | _ + 1, _, y => y

theorem atTrip0_eq {α β : Type*} (g : α → β) (n : ℕ) (f : Fin n → α → α) (a : α) (x : β) (hx : x = g a) (k : ℕ) :
    atTrip0 k x (g (iter n f a k)) = g (iter n f a k) := by
  subst hx; cases k <;> rfl

theorem atTrip0_eq' {α : Type*} (n : ℕ) (f : Fin n → α → α) (a : α) (k : ℕ) :
    atTrip0 k a (iter n f a k) = iter n f a k := by
  cases k <;> rfl

/-- `f` applied for every trip of a loop of `n` trips. -/
def loopEnd {α : Type*} (n : ℕ) (f : Fin n → α → α) (a : α) : α := atTrip0 n a (iter n f a n)

theorem loopEnd_eq {α : Type*} (n : ℕ) (f : Fin n → α → α) (a : α) : loopEnd n f a = iter n f a n := atTrip0_eq' n f a n

/-- The one index of a single entry. -/
abbrev one1 : S1x1.Idx := Shape.Idx.first (numel1_S1x1.symm ▸ Nat.one_pos)

/-- The rows of the eight lane groups that hold one column, in a scratch of pitch 136. -/
abbrev colRect (off : Fin 2 → ℕ) (h : ∀ a, S8x128.size a = 0 ∨ off a + (![136, 1] : Fin 2 → Nat) a * (S8x128.size a - 1) < S1088x128.size a) : LoadRect S1088x128 :=
  ⟨off, S8x128.size, ![136, 1], h⟩

/-- One trip of the innermost left-looking loop: a column of the panel less `e` times one entry of the triangle. -/
def step4 (k0_t2 : Fin k0_t2_loop.trips) (k0_t3 : Fin (k0_t3_loop k0_t2).trips) (v324 : Vec F S1x8x128 .f32)
    (X1 : BufTy.Contents (Elt F) arg1.view.ty) (k : Fin k0_t4_loop.trips) (X10 : BufTy.Contents (Elt F) arg10.view.ty) :
    BufTy.Contents (Elt F) arg10.view.ty :=
  arg10.view.writes (Elt F) X10 [⟨⟨colRect (k0_off15 k0_t2 k) (k0_off15_inb k0_t2 k), spos_136_1⟩,
    k0_pay340 v324 (View.readAt (Elt F) arg10.view (colRect (k0_off15 k0_t2 k) (k0_off15_inb k0_t2 k)) X10)
      (View.readAt (Elt F) arg1.view (Rect.unit (s := S128x128) (k0_off16 k0_t2 k0_t3 k) S1x1.size (k0_off16_inb k0_t2 k0_t3 k)).toLoadRect X1 one1)⟩]

set_option warn.classDefReducibility false in
/-- The innermost left-looking loop, one trip at a time. -/
@[sl_loop] def loopInv4 (v0 : BitVec 32) (v56 : FVec F S8x128 .f32) (v85 : FVec F S1x128 .f32) (k0_t2 : Fin k0_t2_loop.trips) (k0_t3 : Fin (k0_t3_loop k0_t2).trips) (v324 : Vec F S1x8x128 .f32)
    (init : BitVec 32) (X1 : BufTy.Contents (Elt F) arg1.view.ty) (X10 : BufTy.Contents (Elt F) arg10.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 k0_t2 k0_t3 v324 init where
  inv k acc := iprop(Own c arg1 X1 ∗ Own c arg10 (atTrip0 k X10 (iter _ (step4 arg1 arg10 k0_t2 k0_t3 v324 X1) X10 k)))
  step k acc := by
    rw [atTrip0_eq']
    simp only [atTrip0, iter_succ]
    generalize iter _ (step4 arg1 arg10 k0_t2 k0_t3 v324 X1) X10 k.val = X
    unfold k0_t4_body
    iintro ⟨H1, H10⟩
    sl_exec
    sl_step
    sl_close

/-- One trip of the left-looking loop: every column of the panel less its product with one earlier error column. -/
def step3 (k0_t2 : Fin k0_t2_loop.trips) (X1 : BufTy.Contents (Elt F) arg1.view.ty) (X12 : BufTy.Contents (Elt F) arg12.view.ty)
    (k : Fin (k0_t3_loop k0_t2).trips) (X10 : BufTy.Contents (Elt F) arg10.view.ty) : BufTy.Contents (Elt F) arg10.view.ty :=
  loopEnd _ (step4 arg1 arg10 k0_t2 k (View.readAt (Elt F) arg12.view (Rect.unit (s := S128x8x128) (k0_off14 k0_t2 k) S1x8x128.size (k0_off14_inb k0_t2 k)).toLoadRect X12) X1)
    X10

set_option warn.classDefReducibility false in
/-- The left-looking loop over the earlier error columns. -/
@[sl_loop] def loopInv3 (v0 : BitVec 32) (v56 : FVec F S8x128 .f32) (v85 : FVec F S1x128 .f32) (k0_t2 : Fin k0_t2_loop.trips)
    (init : BitVec 32) (X1 : BufTy.Contents (Elt F) arg1.view.ty) (X12 : BufTy.Contents (Elt F) arg12.view.ty) (X10 : BufTy.Contents (Elt F) arg10.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 k0_t2 init where
  inv k acc := iprop(Own c arg1 X1 ∗ Own c arg12 X12 ∗ Own c arg10 (atTrip0 k X10 (iter _ (step3 arg1 arg10 arg12 k0_t2 X1 X12) X10 k)))
  step k acc := by
    rw [atTrip0_eq']
    simp only [atTrip0, iter_succ]
    generalize iter _ (step3 arg1 arg10 arg12 k0_t2 X1 X12) X10 k.val = X
    unfold k0_t3_body
    iintro ⟨H1, H12, H10⟩
    sl_exec
    sl_step
    sl_close

/-- One trip of the loop that takes an even column's error out of a later column of the same panel. -/
def step8 (k0_t2 : Fin k0_t2_loop.trips) (k0_t7 : Fin k0_t7_loop.trips) (v56 : FVec F S8x128 .f32) (v326 : Vec F S8x128 .f32) (v337 : Elt F .f32)
    (X1 : BufTy.Contents (Elt F) arg1.view.ty) (k : Fin (k0_t8_loop k0_t7).trips) (X10 : BufTy.Contents (Elt F) arg10.view.ty) :
    BufTy.Contents (Elt F) arg10.view.ty :=
  arg10.view.writes (Elt F) X10 [⟨⟨colRect (k0_off22 k0_t2 k0_t7 k) (k0_off22_inb k0_t2 k0_t7 k), spos_136_1⟩,
    k0_pay303 v56 v326 v337 (View.readAt (Elt F) arg10.view (colRect (k0_off22 k0_t2 k0_t7 k) (k0_off22_inb k0_t2 k0_t7 k)) X10)
      (View.readAt (Elt F) arg1.view (Rect.unit (s := S128x128) (k0_off23 k0_t2 k0_t7 k) S1x1.size (k0_off23_inb k0_t2 k0_t7 k)).toLoadRect X1 one1)⟩]

set_option warn.classDefReducibility false in
/-- The loop over the later columns of the panel, one trip at a time. -/
@[sl_loop] def loopInv8 (v56 : FVec F S8x128 .f32) (k0_t2 : Fin k0_t2_loop.trips) (v314 : BitVec 32) (c0_i32_209 : BitVec 32) (c1_i32_211 : BitVec 32) (k0_t7 : Fin k0_t7_loop.trips) (v326 : Vec F S8x128 .f32) (v337 : Elt F .f32)
    (init : BitVec 32) (X1 : BufTy.Contents (Elt F) arg1.view.ty) (X10 : BufTy.Contents (Elt F) arg10.view.ty) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v56 k0_t2 v314 c0_i32_209 c1_i32_211 k0_t7 v326 v337 init where
  inv k acc := iprop(Own c arg1 X1 ∗ Own c arg10 (atTrip0 k X10 (iter _ (step8 arg1 arg10 k0_t2 k0_t7 v56 v326 v337 X1) X10 k)))
  step k acc := by
    rw [atTrip0_eq']
    simp only [atTrip0, iter_succ]
    generalize iter _ (step8 arg1 arg10 k0_t2 k0_t7 v56 v326 v337 X1) X10 k.val = X
    unfold k0_t8_body
    iintro ⟨H1, H10⟩
    sl_exec
    sl_step
    sl_close

/-- One trip of the loop that takes an odd column's error out of a later column of the same panel. -/
def step10 (k0_t2 : Fin k0_t2_loop.trips) (k0_t7 : Fin k0_t7_loop.trips) (v56 : FVec F S8x128 .f32) (v363 : Vec F S8x128 .f32) (v374 : Elt F .f32)
    (X1 : BufTy.Contents (Elt F) arg1.view.ty) (k : Fin (k0_t10_loop k0_t7).trips) (X10 : BufTy.Contents (Elt F) arg10.view.ty) :
    BufTy.Contents (Elt F) arg10.view.ty :=
  arg10.view.writes (Elt F) X10 [⟨⟨colRect (k0_off29 k0_t2 k0_t7 k) (k0_off29_inb k0_t2 k0_t7 k), spos_136_1⟩,
    k0_pay310 v56 v363 v374 (View.readAt (Elt F) arg10.view (colRect (k0_off29 k0_t2 k0_t7 k) (k0_off29_inb k0_t2 k0_t7 k)) X10)
      (View.readAt (Elt F) arg1.view (Rect.unit (s := S128x128) (k0_off30 k0_t2 k0_t7 k) S1x1.size (k0_off30_inb k0_t2 k0_t7 k)).toLoadRect X1 one1)⟩]

set_option warn.classDefReducibility false in
/-- The loop over the later columns of the panel, one trip at a time. -/
@[sl_loop] def loopInv10 (v56 : FVec F S8x128 .f32) (k0_t2 : Fin k0_t2_loop.trips) (arg14 : BitVec 32) (v314 : BitVec 32) (k0_t7 : Fin k0_t7_loop.trips) (arg15 : BitVec 32) (v358 : IVec S8x128 32) (v360 : BitVec 32) (v361 : BitVec 32) (v363 : Vec F S8x128 .f32) (v374 : Elt F .f32)
    (init : BitVec 32) (X1 : BufTy.Contents (Elt F) arg1.view.ty) (X10 : BufTy.Contents (Elt F) arg10.view.ty) :
    LoopInvTy_k0_t10 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v56 k0_t2 arg14 v314 k0_t7 arg15 v358 v360 v361 v363 v374 init where
  inv k acc := iprop(Own c arg1 X1 ∗ Own c arg10 (atTrip0 k X10 (iter _ (step10 arg1 arg10 k0_t2 k0_t7 v56 v363 v374 X1) X10 k)))
  step k acc := by
    rw [atTrip0_eq']
    simp only [atTrip0, iter_succ]
    generalize iter _ (step10 arg1 arg10 k0_t2 k0_t7 v56 v363 v374 X1) X10 k.val = X
    unfold k0_t10_body
    iintro ⟨H1, H10⟩
    sl_exec
    sl_step
    sl_close

/-- The contents of the four scratch buffers of the quantiser. -/
structure QS (arg10 : Memref sig .tc .vmem S1088x128 .f32) (arg11 : Memref sig .tc .vmem S1088x128 .f32) (arg12 : Memref sig .tc .vmem S128x8x128 .f32) (arg13 : Memref sig .tc .vmem S576x128 .i32) (F : FTy → Type) where
  /-- the columns still to quantise -/
  w : BufTy.Contents (Elt F) arg10.view.ty
  /-- the error columns in the layout of the tile store -/
  e : BufTy.Contents (Elt F) arg11.view.ty
  /-- the error columns one by one -/
  ecol : BufTy.Contents (Elt F) arg12.view.ty
  /-- the packed codes -/
  code : BufTy.Contents (Elt F) arg13.view.ty

/-- The even column of pair `k0_t7` as it is read. -/
def colE (k0_t2 : Fin k0_t2_loop.trips) (k0_t7 : Fin k0_t7_loop.trips) (X10 : BufTy.Contents (Elt F) arg10.view.ty) : Vec F S8x128 .f32 :=
  View.readAt (Elt F) arg10.view (colRect (k0_off20 k0_t2 k0_t7) (k0_off20_inb k0_t2 k0_t7)) X10

/-- The diagonal entry of the even column of pair `k0_t7`. -/
def diaE (k0_t2 : Fin k0_t2_loop.trips) (k0_t7 : Fin k0_t7_loop.trips) (X1 : BufTy.Contents (Elt F) arg1.view.ty) : Elt F .f32 :=
  View.readAt (Elt F) arg1.view (Rect.unit (s := S128x128) (k0_off21 k0_t2 k0_t7) S1x1.size (k0_off21_inb k0_t2 k0_t7)).toLoadRect X1 one1

/-- The odd column of pair `k0_t7` as it is read. -/
def colO (k0_t2 : Fin k0_t2_loop.trips) (k0_t7 : Fin k0_t7_loop.trips) (X10 : BufTy.Contents (Elt F) arg10.view.ty) : Vec F S8x128 .f32 :=
  View.readAt (Elt F) arg10.view (colRect (k0_off27 k0_t2 k0_t7) (k0_off27_inb k0_t2 k0_t7)) X10

/-- The diagonal entry of the odd column of pair `k0_t7`. -/
def diaO (k0_t2 : Fin k0_t2_loop.trips) (k0_t7 : Fin k0_t7_loop.trips) (X1 : BufTy.Contents (Elt F) arg1.view.ty) : Elt F .f32 :=
  View.readAt (Elt F) arg1.view (Rect.unit (s := S128x128) (k0_off28 k0_t2 k0_t7) S1x1.size (k0_off28_inb k0_t2 k0_t7)).toLoadRect X1 one1

/-- The columns after the even column of pair `k0_t7` has been taken out of the later ones. -/
def evenW (v56 : FVec F S8x128 .f32) (X1 : BufTy.Contents (Elt F) arg1.view.ty) (k0_t2 : Fin k0_t2_loop.trips) (k0_t7 : Fin k0_t7_loop.trips) (X10 : BufTy.Contents (Elt F) arg10.view.ty) : BufTy.Contents (Elt F) arg10.view.ty :=
  loopEnd _ (step8 arg1 arg10 k0_t2 k0_t7 v56 (colE arg10 k0_t2 k0_t7 X10) (diaE arg1 k0_t2 k0_t7 X1) X1) X10

/-- The columns after the odd column of pair `k0_t7` has been taken out of the later ones. -/
def oddW (v56 : FVec F S8x128 .f32) (X1 : BufTy.Contents (Elt F) arg1.view.ty) (k0_t2 : Fin k0_t2_loop.trips) (k0_t7 : Fin k0_t7_loop.trips) (X10 : BufTy.Contents (Elt F) arg10.view.ty) : BufTy.Contents (Elt F) arg10.view.ty :=
  loopEnd _ (step10 arg1 arg10 k0_t2 k0_t7 v56 (colO arg10 k0_t2 k0_t7 X10) (diaO arg1 k0_t2 k0_t7 X1) X1) X10

/-- One pair of columns quantised. -/
def step7 (v56 : FVec F S8x128 .f32) (X1 : BufTy.Contents (Elt F) arg1.view.ty) (k0_t2 : Fin k0_t2_loop.trips) (k : Fin k0_t7_loop.trips) (S : QS arg10 arg11 arg12 arg13 F) : QS arg10 arg11 arg12 arg13 F where
  w := oddW arg1 arg10 v56 X1 k0_t2 k (evenW arg1 arg10 v56 X1 k0_t2 k S.w)
  e := arg11.view.writes (Elt F) S.e
    [⟨⟨colRect (k0_off27 k0_t2 k) (k0_off27_inb k0_t2 k), spos_136_1⟩, k0_pay313 v56 (colO arg10 k0_t2 k (evenW arg1 arg10 v56 X1 k0_t2 k S.w)) (diaO arg1 k0_t2 k X1)⟩,
     ⟨⟨colRect (k0_off20 k0_t2 k) (k0_off20_inb k0_t2 k), spos_136_1⟩, k0_pay306 v56 (colE arg10 k0_t2 k S.w) (diaE arg1 k0_t2 k X1)⟩]
  ecol := arg12.view.writes (Elt F) S.ecol
    [⟨Rect.unit (s := S128x8x128) (k0_off33 k0_t2 k) S1x8x128.size (k0_off33_inb k0_t2 k), k0_pay312 v56 (colO arg10 k0_t2 k (evenW arg1 arg10 v56 X1 k0_t2 k S.w)) (diaO arg1 k0_t2 k X1)⟩,
     ⟨Rect.unit (s := S128x8x128) (k0_off26 k0_t2 k) S1x8x128.size (k0_off26_inb k0_t2 k), k0_pay305 v56 (colE arg10 k0_t2 k S.w) (diaE arg1 k0_t2 k X1)⟩]
  code := arg13.view.writes (Elt F) S.code
    [⟨⟨(⟨k0_off34 k0_t2 k, S8x128.size, ![72, 1], (k0_off34_inb k0_t2 k)⟩ : LoadRect S576x128), spos_72_1⟩,
      k0_pay314 v56 (k0_pay307 v56 (colE arg10 k0_t2 k S.w)) (colO arg10 k0_t2 k (evenW arg1 arg10 v56 X1 k0_t2 k S.w))⟩]

/-- The four scratch buffers held whole. -/
abbrev OwnQ (S : QS arg10 arg11 arg12 arg13 F) : sProp 𝕄G :=
  iprop(Own c arg10 S.w ∗ Own c arg11 S.e ∗ Own c arg12 S.ecol ∗ Own c arg13 S.code)

set_option warn.classDefReducibility false in
/-- The loop over the pairs of a panel. -/
@[sl_loop] def loopInv7 (v0 : BitVec 32) (v56 : FVec F S8x128 .f32) (v85 : FVec F S1x128 .f32) (k0_t2 : Fin k0_t2_loop.trips) (arg14 : BitVec 32) (v314 : BitVec 32)
    (X1 : BufTy.Contents (Elt F) arg1.view.ty) (X10 : BufTy.Contents (Elt F) arg10.view.ty) (X11 : BufTy.Contents (Elt F) arg11.view.ty) (X12 : BufTy.Contents (Elt F) arg12.view.ty) (X13 : BufTy.Contents (Elt F) arg13.view.ty) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 k0_t2 arg14 v314 where
  inv k acc := iprop(Own c arg1 X1 ∗ Own c arg10 (atTrip0 k X10 (iter _ (step7 arg1 arg10 arg11 arg12 arg13 v56 X1 k0_t2) ⟨X10, X11, X12, X13⟩ k).w) ∗ Own c arg11 (atTrip0 k X11 (iter _ (step7 arg1 arg10 arg11 arg12 arg13 v56 X1 k0_t2) ⟨X10, X11, X12, X13⟩ k).e)
    ∗ Own c arg12 (atTrip0 k X12 (iter _ (step7 arg1 arg10 arg11 arg12 arg13 v56 X1 k0_t2) ⟨X10, X11, X12, X13⟩ k).ecol) ∗ Own c arg13 (atTrip0 k X13 (iter _ (step7 arg1 arg10 arg11 arg12 arg13 v56 X1 k0_t2) ⟨X10, X11, X12, X13⟩ k).code))
  step k acc := by
    rw [atTrip0_eq QS.w _ _ _ X10 rfl, atTrip0_eq QS.e _ _ _ X11 rfl, atTrip0_eq QS.ecol _ _ _ X12 rfl, atTrip0_eq QS.code _ _ _ X13 rfl]
    simp only [atTrip0, iter_succ]
    generalize iter _ (step7 arg1 arg10 arg11 arg12 arg13 v56 X1 k0_t2) ⟨X10, X11, X12, X13⟩ k.val = S
    obtain ⟨X10, X11, X12, X13⟩ := S
    dsimp only
    unfold k0_t7_body
    iintro ⟨H1, H10, H11, H12, H13⟩
    sl_exec
    sl_step
    sl_unfold_run_names
    simp only [step7, oddW, evenW, loopEnd, colE, colO, diaE, diaO]
    sl_close

/-- A panel after its left-looking products and its pairs of columns. -/
def panelEnd (v56 : FVec F S8x128 .f32) (X1 : BufTy.Contents (Elt F) arg1.view.ty) (k : Fin k0_t2_loop.trips) (S : QS arg10 arg11 arg12 arg13 F) : QS arg10 arg11 arg12 arg13 F :=
  iter _ (step7 arg1 arg10 arg11 arg12 arg13 v56 X1 k)
    ⟨loopEnd _ (step3 arg1 arg10 arg12 k X1 S.ecol) S.w, S.e, S.ecol, S.code⟩ k0_t7_loop.trips

/-- One panel quantised: the left-looking products first, then its pairs of columns. -/
def step2 (v56 : FVec F S8x128 .f32) (X1 : BufTy.Contents (Elt F) arg1.view.ty) (k : Fin k0_t2_loop.trips) (S : QS arg10 arg11 arg12 arg13 F) : QS arg10 arg11 arg12 arg13 F :=
  ⟨atTrip0 k0_t7_loop.trips (loopEnd _ (step3 arg1 arg10 arg12 k X1 S.ecol) S.w) (panelEnd arg1 arg10 arg11 arg12 arg13 v56 X1 k S).w,
   atTrip0 k0_t7_loop.trips S.e (panelEnd arg1 arg10 arg11 arg12 arg13 v56 X1 k S).e, atTrip0 k0_t7_loop.trips S.ecol (panelEnd arg1 arg10 arg11 arg12 arg13 v56 X1 k S).ecol, atTrip0 k0_t7_loop.trips S.code (panelEnd arg1 arg10 arg11 arg12 arg13 v56 X1 k S).code⟩

theorem step2_eq (v56 : FVec F S8x128 .f32) (X1 : BufTy.Contents (Elt F) arg1.view.ty) (k : Fin k0_t2_loop.trips) (S : QS arg10 arg11 arg12 arg13 F) :
    step2 arg1 arg10 arg11 arg12 arg13 v56 X1 k S = (panelEnd arg1 arg10 arg11 arg12 arg13 v56 X1 k S) := by
  unfold step2 panelEnd
  generalize hA : (⟨loopEnd _ (step3 arg1 arg10 arg12 k X1 S.ecol) S.w, S.e, S.ecol, S.code⟩ : QS arg10 arg11 arg12 arg13 F) = A
  rw [atTrip0_eq QS.w _ _ A _ (by rw [← hA]), atTrip0_eq QS.e _ _ A _ (by rw [← hA]),
    atTrip0_eq QS.ecol _ _ A _ (by rw [← hA]), atTrip0_eq QS.code _ _ A _ (by rw [← hA])]

set_option warn.classDefReducibility false in
/-- The loop over the panels. -/
@[sl_loop] def loopInv2 (v0 : BitVec 32) (v56 : FVec F S8x128 .f32) (v85 : FVec F S1x128 .f32)
    (X1 : BufTy.Contents (Elt F) arg1.view.ty) (X10 : BufTy.Contents (Elt F) arg10.view.ty) (X11 : BufTy.Contents (Elt F) arg11.view.ty) (X12 : BufTy.Contents (Elt F) arg12.view.ty) (X13 : BufTy.Contents (Elt F) arg13.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v56 v85 where
  inv k acc := iprop(Own c arg1 X1 ∗ Own c arg10 (atTrip0 k X10 (iter _ (step2 arg1 arg10 arg11 arg12 arg13 v56 X1) ⟨X10, X11, X12, X13⟩ k).w) ∗ Own c arg11 (atTrip0 k X11 (iter _ (step2 arg1 arg10 arg11 arg12 arg13 v56 X1) ⟨X10, X11, X12, X13⟩ k).e)
    ∗ Own c arg12 (atTrip0 k X12 (iter _ (step2 arg1 arg10 arg11 arg12 arg13 v56 X1) ⟨X10, X11, X12, X13⟩ k).ecol) ∗ Own c arg13 (atTrip0 k X13 (iter _ (step2 arg1 arg10 arg11 arg12 arg13 v56 X1) ⟨X10, X11, X12, X13⟩ k).code))
  step k acc := by
    rw [atTrip0_eq QS.w _ _ _ X10 rfl, atTrip0_eq QS.e _ _ _ X11 rfl, atTrip0_eq QS.ecol _ _ _ X12 rfl, atTrip0_eq QS.code _ _ _ X13 rfl]
    simp only [atTrip0, iter_succ]
    generalize iter _ (step2 arg1 arg10 arg11 arg12 arg13 v56 X1) ⟨X10, X11, X12, X13⟩ k.val = S
    obtain ⟨X10, X11, X12, X13⟩ := S
    dsimp only
    unfold k0_t2_body
    iintro ⟨H1, H10, H11, H12, H13⟩
    sl_exec
    sl_step
    sl_unfold_run_names
    simp only [step2, panelEnd, loopEnd]
    sl_close

end Cert.KernelIdeal.Hand
end
-- ==== Proof.Hand.Quant.lean ====
module

public import proofs.«01_k».proof.Proof.Hand.QLoops
public import Idealize.ShloMosaic.Lib.ValueIdxCore
public import Idealize.ShloMosaic.Lib.Pipeline.Value

@[expose] public section

set_option maxRecDepth 8192
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## One column recursion, lane by lane -/

/-- The code of an entry `w` at scale `s`: the quotient rounded and clipped to ±7. -/
def Ec (s w : F .f32) : F .f32 :=
  FloatOps.minimumf (Scalar.ofBits .f32 0x40E00000#32) (FloatOps.maximumf (Scalar.ofBits .f32 0xC0E00000#32) (FloatOps.roundeven (FloatOps.divf w s)))

/-- The error of an entry `w` at scale `s` over the diagonal entry `d`. -/
def Ew (s w d : F .f32) : F .f32 :=
  FloatOps.divf (FloatOps.subf w (FloatOps.mulf (Ec s w) s)) d

/-- An entry less an error times one entry of the triangle. -/
def upd (e u w : F .f32) : F .f32 := FloatOps.subf w (FloatOps.mulf e u)

/-- The columns of one lane after the first `k` of them have been quantised and taken out of the others. -/
def P (s : F .f32) (W : ℕ → F .f32) (u : ℕ → ℕ → F .f32) : ℕ → ℕ → F .f32
  | 0, j => W j
  | k + 1, j => upd (Ew s (P s W u k k) (u k k)) (u k j) (P s W u k j)

/-- The error of column `k` of one lane. -/
def er (s : F .f32) (W : ℕ → F .f32) (u : ℕ → ℕ → F .f32) (k : ℕ) : F .f32 := Ew s (P s W u k k) (u k k)

/-- The code of column `k` of one lane. -/
def cd (s : F .f32) (W : ℕ → F .f32) (u : ℕ → ℕ → F .f32) (k : ℕ) : F .f32 := Ec s (P s W u k k)

/-- Two codes packed in one word, the first in the low half-byte. -/
def pk (a b : F .f32) : BitVec 32 :=
  IntOp.ori (IntOp.andi (FloatOps.fptosi 32 a) 15#32) (IntOp.shli .vector (IntOp.andi (FloatOps.fptosi 32 b) 15#32) 4#32)

/-! ## The payloads at a lane -/

theorem pay301_apply (s : FVec F S8x128 .f32) (w : Vec F S8x128 .f32) (y : S8x128.Idx) : k0_pay301 s w y = Ec (s y) (w y) := rfl
theorem pay308_apply (s : FVec F S8x128 .f32) (w : Vec F S8x128 .f32) (y : S8x128.Idx) : k0_pay308 s w y = Ec (s y) (w y) := rfl
theorem pay302_apply (s : FVec F S8x128 .f32) (w : Vec F S8x128 .f32) (d : Elt F .f32) (y : S8x128.Idx) : k0_pay302 s w d y = Ew (s y) (w y) d := rfl
theorem pay309_apply (s : FVec F S8x128 .f32) (w : Vec F S8x128 .f32) (d : Elt F .f32) (y : S8x128.Idx) : k0_pay309 s w d y = Ew (s y) (w y) d := rfl

theorem pay303_apply (s : FVec F S8x128 .f32) (w : Vec F S8x128 .f32) (d : Elt F .f32) (x : Vec F S8x128 .f32) (u : Elt F .f32) (y : S8x128.Idx) :
    k0_pay303 s w d x u y = upd (Ew (s y) (w y) d) u (x y) := by
  unfold k0_pay303; rw [shapeCast_self]; rfl
theorem pay310_apply (s : FVec F S8x128 .f32) (w : Vec F S8x128 .f32) (d : Elt F .f32) (x : Vec F S8x128 .f32) (u : Elt F .f32) (y : S8x128.Idx) :
    k0_pay310 s w d x u y = upd (Ew (s y) (w y) d) u (x y) := by
  unfold k0_pay310; rw [shapeCast_self]; rfl
theorem pay306_apply (s : FVec F S8x128 .f32) (w : Vec F S8x128 .f32) (d : Elt F .f32) (y : S8x128.Idx) : k0_pay306 s w d y = Ew (s y) (w y) d := by
  unfold k0_pay306; rw [shapeCast_self]; rfl
theorem pay313_apply (s : FVec F S8x128 .f32) (w : Vec F S8x128 .f32) (d : Elt F .f32) (y : S8x128.Idx) : k0_pay313 s w d y = Ew (s y) (w y) d := by
  unfold k0_pay313; rw [shapeCast_self]; rfl
theorem pay314_apply (s : FVec F S8x128 .f32) (w w' : Vec F S8x128 .f32) (y : S8x128.Idx) :
    k0_pay314 s (k0_pay307 s w) w' y = pk (Ec (s y) (w y)) (Ec (s y) (w' y)) := by
  unfold k0_pay314; rw [shapeCast_self]; rfl

/-- A lane of a column, as an index of the one-column block. -/
abbrev ix1y (y : S8x128.Idx) : S1x8x128.Idx := fun d => match d with | ⟨0, _⟩ => (0 : Fin 1) | ⟨1, _⟩ => y 0 | ⟨2, _⟩ => y 1

theorem rm_ix1y (y : S8x128.Idx) : (S1x8x128.rowMajor (ix1y y)).val = (S8x128.rowMajor y).val := by
  rw [Shape.rowMajor_val_three, Shape.rowMajor_val_two]
  simp [ix1y]

theorem pay305_apply (s : FVec F S8x128 .f32) (w : Vec F S8x128 .f32) (d : Elt F .f32) (y : S8x128.Idx) : k0_pay305 s w d (ix1y y) = Ew (s y) (w y) d := by
  unfold k0_pay305
  exact (shapeCast_apply _ _ _ y (rm_ix1y y).symm).trans rfl
theorem pay312_apply (s : FVec F S8x128 .f32) (w : Vec F S8x128 .f32) (d : Elt F .f32) (y : S8x128.Idx) : k0_pay312 s w d (ix1y y) = Ew (s y) (w y) d := by
  unfold k0_pay312
  exact (shapeCast_apply _ _ _ y (rm_ix1y y).symm).trans rfl
theorem pay340_apply (v : Vec F S1x8x128 .f32) (x : Vec F S8x128 .f32) (u : Elt F .f32) (y : S8x128.Idx) :
    k0_pay340 v x u y = upd (v (ix1y y)) u (x y) := by
  unfold k0_pay340; rw [shapeCast_self]
  simp only [subf, mulf, upd, broadcast]
  rw [shapeCast_apply v _ y (ix1y y) (rm_ix1y y)]

/-! ## The scratch buffers read and written one column at a time -/

variable (arg1 : Memref sig .tc .smem S128x128 .f32) (arg10 : Memref sig .tc .vmem S1088x128 .f32) (arg11 : Memref sig .tc .vmem S1088x128 .f32)
  (arg12 : Memref sig .tc .vmem S128x8x128 .f32) (arg13 : Memref sig .tc .vmem S576x128 .i32)

/-- The place of lane `y` of column `j` in a scratch of pitch 136. -/
def cIdx (j : ℕ) (y : S8x128.Idx) : S1088x128.Idx := ix2 ⟨(136 * (y 0).val + j) % 1088, Nat.mod_lt _ (by norm_num)⟩ (y 1)

/-- The place of lane `y` of the packed row `q` in the scratch of pitch 72. -/
def qIdx (q : ℕ) (y : S8x128.Idx) : S576x128.Idx := ix2 ⟨(72 * (y 0).val + q) % 576, Nat.mod_lt _ (by norm_num)⟩ (y 1)

/-- The place of lane `y` of column `j` in the scratch of whole columns. -/
def eIdx (j : ℕ) (y : S8x128.Idx) : S128x8x128.Idx :=
  fun d => match d with | ⟨0, _⟩ => (⟨j % 128, Nat.mod_lt _ (by norm_num)⟩ : Fin 128) | ⟨1, _⟩ => y 0 | ⟨2, _⟩ => y 1

theorem y0_lt (y : S8x128.Idx) : (y 0).val < 8 := (y 0).isLt

theorem cIdx0 (j : ℕ) (hj : j < 136) (y : S8x128.Idx) : (cIdx j y 0).val = 136 * (y 0).val + j := by
  have := y0_lt y; exact Nat.mod_eq_of_lt (by omega)
theorem qIdx0 (j : ℕ) (hj : j < 72) (y : S8x128.Idx) : (qIdx j y 0).val = 72 * (y 0).val + j := by
  have := y0_lt y; exact Nat.mod_eq_of_lt (by omega)
theorem eIdx0 (j : ℕ) (hj : j < 128) (y : S8x128.Idx) : (eIdx j y 0).val = j := Nat.mod_eq_of_lt hj

/-- Lane `y` of column `j`. -/
def wv (a : Memref sig .tc .vmem S1088x128 .f32) (X : BufTy.Contents (Elt F) a.view.ty) (j : ℕ) (y : S8x128.Idx) : F .f32 := a.view.read (Elt F) X (cIdx j y)
/-- Lane `y` of the packed row `q`. -/
def qv (a : Memref sig .tc .vmem S576x128 .i32) (X : BufTy.Contents (Elt F) a.view.ty) (q : ℕ) (y : S8x128.Idx) : BitVec 32 := a.view.read (Elt F) X (qIdx q y)
/-- Lane `y` of error column `j`. -/
def ev (a : Memref sig .tc .vmem S128x8x128 .f32) (X : BufTy.Contents (Elt F) a.view.ty) (j : ℕ) (y : S8x128.Idx) : F .f32 := a.view.read (Elt F) X (eIdx j y)
/-- Entry `(i, j)` of the triangle. -/
def uv (a : Memref sig .tc .smem S128x128 .f32) (X : BufTy.Contents (Elt F) a.view.ty) (i j : ℕ) : F .f32 :=
  a.view.read (Elt F) X (ix2 ⟨i % 128, Nat.mod_lt _ (by norm_num)⟩ ⟨j % 128, Nat.mod_lt _ (by norm_num)⟩)

theorem read_col (a : Memref sig .tc .vmem S1088x128 .f32) (X : BufTy.Contents (Elt F) a.view.ty) (off : Fin 2 → ℕ) (h) (j : ℕ) (ho : off = ![j, 0]) (hj : j < 136) (y : S8x128.Idx) :
    View.readAt (Elt F) a.view (colRect off h) X y = wv a X j y := by
  subst ho
  rw [View.readAt_apply]
  refine congrArg _ (funext fun d => Fin.ext ?_)
  match d with
  | ⟨0, _⟩ => exact (show j + 136 * (y 0).val = (cIdx j y 0).val by rw [cIdx0 j hj]; omega)
  | ⟨1, _⟩ => exact (show 0 + 1 * (y 1).val = (y 1).val by omega)

theorem write_col (a : Memref sig .tc .vmem S1088x128 .f32) (X : BufTy.Contents (Elt F) a.view.ty) (off : Fin 2 → ℕ) (h) (v : Vec F S8x128 .f32) (L)
    (j0 : ℕ) (ho : off = ![j0, 0]) (hj0 : j0 < 136) (j : ℕ) (hj : j < 136) (y : S8x128.Idx) :
    wv a (a.view.writes (Elt F) X (⟨⟨colRect off h, spos_136_1⟩, v⟩ :: L)) j y = if j = j0 then v y else wv a (a.view.writes (Elt F) X L) j y := by
  subst ho
  split
  · rename_i e; subst e
    refine View.read_writes_cons_hit_of_coords a.view X ⟨colRect ![j, 0] h, spos_136_1⟩ v L y _ fun d => ?_
    match d with
    | ⟨0, _⟩ => exact (show (cIdx j y 0).val = j + 136 * (y 0).val by rw [cIdx0 j hj]; omega)
    | ⟨1, _⟩ => exact (show (y 1).val = 0 + 1 * (y 1).val by omega)
  · rename_i e
    refine View.read_writes_cons_miss _ _ _ _ _ fun hm => e ?_
    obtain ⟨k, hk, hk'⟩ := (LoadRect.mem_set _).1 hm 0
    have h1 : (cIdx j y 0).val = j0 + 136 * k := hk'
    have h2 : k < 8 := hk
    rw [cIdx0 j hj] at h1
    omega

theorem write_q (a : Memref sig .tc .vmem S576x128 .i32) (X : BufTy.Contents (Elt F) a.view.ty) (off : Fin 2 → ℕ) (h) (v : Vec F S8x128 .i32) (L)
    (j0 : ℕ) (ho : off = ![j0, 0]) (hj0 : j0 < 72) (j : ℕ) (hj : j < 72) (y : S8x128.Idx) :
    qv a (a.view.writes (Elt F) X (⟨⟨(⟨off, S8x128.size, ![72, 1], h⟩ : LoadRect S576x128), spos_72_1⟩, v⟩ :: L)) j y = if j = j0 then v y else qv a (a.view.writes (Elt F) X L) j y := by
  subst ho
  split
  · rename_i e; subst e
    refine View.read_writes_cons_hit_of_coords a.view X ⟨(⟨![j, 0], S8x128.size, ![72, 1], h⟩ : LoadRect S576x128), spos_72_1⟩ v L y _ fun d => ?_
    match d with
    | ⟨0, _⟩ => exact (show (qIdx j y 0).val = j + 72 * (y 0).val by rw [qIdx0 j hj]; omega)
    | ⟨1, _⟩ => exact (show (y 1).val = 0 + 1 * (y 1).val by omega)
  · rename_i e
    refine View.read_writes_cons_miss _ _ _ _ _ fun hm => e ?_
    obtain ⟨k, hk, hk'⟩ := (LoadRect.mem_set _).1 hm 0
    have h1 : (qIdx j y 0).val = j0 + 72 * k := hk'
    have h2 : k < 8 := hk
    rw [qIdx0 j hj] at h1
    omega

theorem read_e (a : Memref sig .tc .vmem S128x8x128 .f32) (X : BufTy.Contents (Elt F) a.view.ty) (off : Fin 3 → ℕ) (h) (j : ℕ) (ho : off = ![j, 0, 0]) (hj : j < 128) (y : S8x128.Idx) :
    View.readAt (Elt F) a.view (Rect.unit (s := S128x8x128) off S1x8x128.size h).toLoadRect X (ix1y y) = ev a X j y := by
  subst ho
  rw [View.readAt_apply]
  refine congrArg _ (funext fun d => Fin.ext ?_)
  match d with
  | ⟨0, _⟩ => exact (show j + 1 * 0 = (eIdx j y 0).val by rw [eIdx0 j hj]; omega)
  | ⟨1, _⟩ => exact (show 0 + 1 * (y 0).val = (y 0).val by omega)
  | ⟨2, _⟩ => exact (show 0 + 1 * (y 1).val = (y 1).val by omega)

theorem write_e (a : Memref sig .tc .vmem S128x8x128 .f32) (X : BufTy.Contents (Elt F) a.view.ty) (off : Fin 3 → ℕ) (h) (v : Vec F S1x8x128 .f32) (L)
    (j0 : ℕ) (ho : off = ![j0, 0, 0]) (j : ℕ) (hj : j < 128) (y : S8x128.Idx) :
    ev a (a.view.writes (Elt F) X (⟨Rect.unit (s := S128x8x128) off S1x8x128.size h, v⟩ :: L)) j y = if j = j0 then v (ix1y y) else ev a (a.view.writes (Elt F) X L) j y := by
  subst ho
  split
  · rename_i e; subst e
    refine View.read_writes_cons_hit_of_coords a.view X (Rect.unit (s := S128x8x128) ![j, 0, 0] S1x8x128.size h) v L (ix1y y) _ fun d => ?_
    match d with
    | ⟨0, _⟩ => exact (show (eIdx j y 0).val = j + 1 * 0 by rw [eIdx0 j hj]; omega)
    | ⟨1, _⟩ => exact (show (y 0).val = 0 + 1 * (y 0).val by omega)
    | ⟨2, _⟩ => exact (show (y 1).val = 0 + 1 * (y 1).val by omega)
  · rename_i e
    refine View.read_writes_cons_miss _ _ _ _ _ fun hm => e ?_
    obtain ⟨k, hk, hk'⟩ := (LoadRect.mem_set _).1 hm 0
    have h1 : (eIdx j y 0).val = j0 + 1 * k := hk'
    have h2 : k < 1 := hk
    rw [eIdx0 j hj] at h1
    omega

theorem read_u (a : Memref sig .tc .smem S128x128 .f32) (X : BufTy.Contents (Elt F) a.view.ty) (off : Fin 2 → ℕ) (h) (i j : ℕ) (ho : off = ![i, j]) (hi : i < 128) (hj : j < 128) :
    View.readAt (Elt F) a.view (Rect.unit (s := S128x128) off S1x1.size h).toLoadRect X one1 = uv a X i j := by
  subst ho
  rw [View.readAt_apply]
  refine congrArg _ (funext fun d => Fin.ext ?_)
  match d with
  | ⟨0, _⟩ => exact (show i + 1 * (one1 0).val = i % 128 by have : (one1 0).val < 1 := (one1 0).isLt; rw [Nat.mod_eq_of_lt hi]; omega)
  | ⟨1, _⟩ => exact (show j + 1 * (one1 1).val = j % 128 by have : (one1 1).val < 1 := (one1 1).isLt; rw [Nat.mod_eq_of_lt hj]; omega)

/-! ## The loops at a lane -/

/-- A loop whose trip `k` rewrites column `b + k` alone rewrites the columns it has passed. -/
theorem iter_cols {α V : Type} (val : α → ℕ → V) (n b J : ℕ) (f : Fin n → α → α) (g : ℕ → V → V)
    (hf : ∀ (k : Fin n) X j, j < J → val (f k X) j = if j = b + k.val then g j (val X j) else val X j) (X : α) (m : ℕ) (hm : m ≤ n) (j : ℕ) (hj : j < J) :
    val (iter n f X m) j = if b ≤ j ∧ j < b + m then g j (val X j) else val X j := by
  induction m with
  | zero => rw [iter_zero, if_neg (by omega)]
  | succ m ih =>
    have e := iter_succ n f X ⟨m, hm⟩
    rw [show m + 1 = (⟨m, hm⟩ : Fin n).val + 1 from rfl, e, hf _ _ _ hj]
    dsimp only
    rw [ih (by omega)]
    by_cases h1 : j = b + m
    · rw [if_pos h1, if_neg (by omega), if_pos (by omega)]
    · rw [if_neg h1]
      by_cases h2 : b ≤ j ∧ j < b + m
      · rw [if_pos h2, if_pos (by omega)]
      · rw [if_neg h2, if_neg (by omega)]

theorem trips2 : k0_t2_loop.trips = 8 := by decide +kernel
theorem trips3 : ∀ k : Fin k0_t2_loop.trips, (k0_t3_loop k).trips = 16 * k.val := by decide +kernel
theorem trips4 : k0_t4_loop.trips = 16 := by decide +kernel
theorem trips7 : k0_t7_loop.trips = 8 := by decide +kernel
theorem trips8 : ∀ k : Fin k0_t7_loop.trips, (k0_t8_loop k).trips = 15 - 2 * k.val := by decide +kernel
theorem trips10 : ∀ k : Fin k0_t7_loop.trips, (k0_t10_loop k).trips = 14 - 2 * k.val := by decide +kernel

theorem lt2 (k : Fin k0_t2_loop.trips) : k.val < 8 := lt_of_lt_of_eq k.isLt trips2
theorem lt3 (t : Fin k0_t2_loop.trips) (k : Fin (k0_t3_loop t).trips) : k.val < 16 * t.val := lt_of_lt_of_eq k.isLt (trips3 t)
theorem lt4 (k : Fin k0_t4_loop.trips) : k.val < 16 := lt_of_lt_of_eq k.isLt trips4
theorem lt7 (k : Fin k0_t7_loop.trips) : k.val < 8 := lt_of_lt_of_eq k.isLt trips7
theorem lt8 (t : Fin k0_t7_loop.trips) (k : Fin (k0_t8_loop t).trips) : k.val < 15 - 2 * t.val := lt_of_lt_of_eq k.isLt (trips8 t)
theorem lt10 (t : Fin k0_t7_loop.trips) (k : Fin (k0_t10_loop t).trips) : k.val < 14 - 2 * t.val := lt_of_lt_of_eq k.isLt (trips10 t)

theorem wv_step4 (t2 : Fin k0_t2_loop.trips) (t3 : Fin (k0_t3_loop t2).trips) (v : Vec F S1x8x128 .f32) (X1 : BufTy.Contents (Elt F) arg1.view.ty)
    (k : Fin k0_t4_loop.trips) (X : BufTy.Contents (Elt F) arg10.view.ty) (y : S8x128.Idx) (j : ℕ) (hj : j < 128) :
    wv arg10 (step4 arg1 arg10 t2 t3 v X1 k X) j y
      = if j = 16 * t2.val + k.val then upd (v (ix1y y)) (uv arg1 X1 t3.val j) (wv arg10 X j y) else wv arg10 X j y := by
  have a2 := lt2 t2; have a3 := lt3 t2 t3; have a4 := lt4 k
  unfold step4
  rw [write_col arg10 X _ _ _ _ (16 * t2.val + k.val) (k0_off15_eq t2 k) (by omega) j (by omega)]
  by_cases e : j = 16 * t2.val + k.val
  · rw [if_pos e, if_pos e, pay340_apply, read_col arg10 X _ _ j (by rw [e]; exact k0_off15_eq t2 k) (by omega),
      read_u arg1 X1 _ _ t3.val j (by rw [e]; exact k0_off16_eq t2 t3 k) (by omega) hj]
  · rw [if_neg e, if_neg e]; rfl

theorem wv_step3 (t2 : Fin k0_t2_loop.trips) (X1 : BufTy.Contents (Elt F) arg1.view.ty) (X12 : BufTy.Contents (Elt F) arg12.view.ty)
    (k : Fin (k0_t3_loop t2).trips) (X : BufTy.Contents (Elt F) arg10.view.ty) (y : S8x128.Idx) (j : ℕ) (hj : j < 128) :
    wv arg10 (step3 arg1 arg10 arg12 t2 X1 X12 k X) j y
      = if 16 * t2.val ≤ j ∧ j < 16 * t2.val + 16 then upd (ev arg12 X12 k.val y) (uv arg1 X1 k.val j) (wv arg10 X j y) else wv arg10 X j y := by
  have a2 := lt2 t2; have a3 := lt3 t2 k
  unfold step3
  rw [loopEnd_eq]
  have h := iter_cols (fun X j => wv arg10 X j y) _ (16 * t2.val) 128
    (step4 arg1 arg10 t2 k (View.readAt (Elt F) arg12.view (Rect.unit (s := S128x8x128) (k0_off14 t2 k) S1x8x128.size (k0_off14_inb t2 k)).toLoadRect X12) X1)
    (fun j x => upd (ev arg12 X12 k.val y) (uv arg1 X1 k.val j) x)
    (fun k' X j hj => by
      show wv _ _ _ _ = _
      rw [wv_step4 arg1 arg10 t2 k _ X1 k' X y j hj, read_e arg12 X12 _ _ k.val (k0_off14_eq t2 k) (by omega)]) X k0_t4_loop.trips le_rfl j hj
  have e : 16 * t2.val + k0_t4_loop.trips = 16 * t2.val + 16 := by have := trips4; omega
  rw [e] at h
  exact h

theorem wv_step8 (t2 : Fin k0_t2_loop.trips) (t7 : Fin k0_t7_loop.trips) (s : FVec F S8x128 .f32) (w : Vec F S8x128 .f32) (d : Elt F .f32) (X1 : BufTy.Contents (Elt F) arg1.view.ty)
    (k : Fin (k0_t8_loop t7).trips) (X : BufTy.Contents (Elt F) arg10.view.ty) (y : S8x128.Idx) (j : ℕ) (hj : j < 128) :
    wv arg10 (step8 arg1 arg10 t2 t7 s w d X1 k X) j y
      = if j = (16 * t2.val + 2 * t7.val + 1) + k.val then upd (Ew (s y) (w y) d) (uv arg1 X1 (16 * t2.val + 2 * t7.val) j) (wv arg10 X j y) else wv arg10 X j y := by
  have a2 := lt2 t2; have a7 := lt7 t7; have a8 := lt8 t7 k
  have o : k0_off22 t2 t7 k = ![(16 * t2.val + 2 * t7.val + 1) + k.val, 0] := by rw [k0_off22_eq]; congr 1; omega
  have o' : k0_off23 t2 t7 k = ![16 * t2.val + 2 * t7.val, (16 * t2.val + 2 * t7.val + 1) + k.val] := by rw [k0_off23_eq]; congr 2; omega
  unfold step8
  rw [write_col arg10 X _ _ _ _ _ o (by omega) j (by omega)]
  by_cases e : j = (16 * t2.val + 2 * t7.val + 1) + k.val
  · rw [if_pos e, if_pos e, pay303_apply, read_col arg10 X _ _ j (by rw [e]; exact o) (by omega),
      read_u arg1 X1 _ _ _ j (by rw [e]; exact o') (by omega) hj]
  · rw [if_neg e, if_neg e]; rfl

theorem wv_step10 (t2 : Fin k0_t2_loop.trips) (t7 : Fin k0_t7_loop.trips) (s : FVec F S8x128 .f32) (w : Vec F S8x128 .f32) (d : Elt F .f32) (X1 : BufTy.Contents (Elt F) arg1.view.ty)
    (k : Fin (k0_t10_loop t7).trips) (X : BufTy.Contents (Elt F) arg10.view.ty) (y : S8x128.Idx) (j : ℕ) (hj : j < 128) :
    wv arg10 (step10 arg1 arg10 t2 t7 s w d X1 k X) j y
      = if j = (16 * t2.val + 2 * t7.val + 2) + k.val then upd (Ew (s y) (w y) d) (uv arg1 X1 (16 * t2.val + 2 * t7.val + 1) j) (wv arg10 X j y) else wv arg10 X j y := by
  have a2 := lt2 t2; have a7 := lt7 t7; have a8 := lt10 t7 k
  have o : k0_off29 t2 t7 k = ![(16 * t2.val + 2 * t7.val + 2) + k.val, 0] := by rw [k0_off29_eq]; congr 1; omega
  have o' : k0_off30 t2 t7 k = ![16 * t2.val + 2 * t7.val + 1, (16 * t2.val + 2 * t7.val + 2) + k.val] := by rw [k0_off30_eq]; congr 2; omega
  unfold step10
  rw [write_col arg10 X _ _ _ _ _ o (by omega) j (by omega)]
  by_cases e : j = (16 * t2.val + 2 * t7.val + 2) + k.val
  · rw [if_pos e, if_pos e, pay310_apply, read_col arg10 X _ _ j (by rw [e]; exact o) (by omega),
      read_u arg1 X1 _ _ _ j (by rw [e]; exact o') (by omega) hj]
  · rw [if_neg e, if_neg e]; rfl

theorem wv_evenW (s : FVec F S8x128 .f32) (X1 : BufTy.Contents (Elt F) arg1.view.ty) (t2 : Fin k0_t2_loop.trips) (t7 : Fin k0_t7_loop.trips) (X : BufTy.Contents (Elt F) arg10.view.ty)
    (y : S8x128.Idx) (n : ℕ) (hn : n = 16 * t2.val + 2 * t7.val) (j : ℕ) (hj : j < 128) :
    wv arg10 (evenW arg1 arg10 s X1 t2 t7 X) j y
      = if n + 1 ≤ j ∧ j < 16 * t2.val + 16 then upd (Ew (s y) (wv arg10 X n y) (uv arg1 X1 n n)) (uv arg1 X1 n j) (wv arg10 X j y) else wv arg10 X j y := by
  have a2 := lt2 t2; have a7 := lt7 t7
  unfold evenW
  rw [loopEnd_eq]
  have h := iter_cols (fun X j => wv arg10 X j y) _ (n + 1) 128
    (step8 arg1 arg10 t2 t7 s (colE arg10 t2 t7 X) (diaE arg1 t2 t7 X1) X1)
    (fun j x => upd (Ew (s y) (wv arg10 X n y) (uv arg1 X1 n n)) (uv arg1 X1 n j) x)
    (fun k X' j hj => by
      show wv _ _ _ _ = _
      rw [wv_step8 arg1 arg10 t2 t7 s _ _ X1 k X' y j hj, ← hn, colE, diaE, read_col arg10 X _ _ n (by rw [hn]; exact k0_off20_eq t2 t7) (by omega),
        read_u arg1 X1 _ _ n n (by rw [hn]; exact k0_off21_eq t2 t7) (by omega) (by omega)]) X _ le_rfl j hj
  have e : n + 1 + (k0_t8_loop t7).trips = 16 * t2.val + 16 := by rw [trips8]; omega
  rw [e] at h
  exact h

theorem wv_oddW (s : FVec F S8x128 .f32) (X1 : BufTy.Contents (Elt F) arg1.view.ty) (t2 : Fin k0_t2_loop.trips) (t7 : Fin k0_t7_loop.trips) (X : BufTy.Contents (Elt F) arg10.view.ty)
    (y : S8x128.Idx) (n : ℕ) (hn : n = 16 * t2.val + 2 * t7.val + 1) (j : ℕ) (hj : j < 128) :
    wv arg10 (oddW arg1 arg10 s X1 t2 t7 X) j y
      = if n + 1 ≤ j ∧ j < 16 * t2.val + 16 then upd (Ew (s y) (wv arg10 X n y) (uv arg1 X1 n n)) (uv arg1 X1 n j) (wv arg10 X j y) else wv arg10 X j y := by
  have a2 := lt2 t2; have a7 := lt7 t7
  unfold oddW
  rw [loopEnd_eq]
  have h := iter_cols (fun X j => wv arg10 X j y) _ (n + 1) 128
    (step10 arg1 arg10 t2 t7 s (colO arg10 t2 t7 X) (diaO arg1 t2 t7 X1) X1)
    (fun j x => upd (Ew (s y) (wv arg10 X n y) (uv arg1 X1 n n)) (uv arg1 X1 n j) x)
    (fun k X' j hj => by
      show wv _ _ _ _ = _
      rw [wv_step10 arg1 arg10 t2 t7 s _ _ X1 k X' y j hj, show 16 * t2.val + 2 * t7.val + 2 = n + 1 by omega, ← hn, colO, diaO, read_col arg10 X _ _ n (by rw [hn]; exact k0_off27_eq t2 t7) (by omega),
        read_u arg1 X1 _ _ n n (by rw [hn]; exact k0_off28_eq t2 t7) (by omega) (by omega)]) X _ le_rfl j hj
  have e : n + 1 + (k0_t10_loop t7).trips = 16 * t2.val + 16 := by rw [trips10]; omega
  rw [e] at h
  exact h

/-! ## The invariant -/

variable (s : FVec F S8x128 .f32) (W : ℕ → F .f32) (X1 : BufTy.Contents (Elt F) arg1.view.ty) (y : S8x128.Idx)

/-- What the four scratch buffers hold at lane `y` when the first `n` columns have been quantised, where the columns below `m` have had all
    of those taken out of them and the columns from `m` on are as they were read. -/
structure QInv (n m : ℕ) (S : QS arg10 arg11 arg12 arg13 F) : Prop where
  hw : ∀ j, n ≤ j → j < m → wv arg10 S.w j y = P (s y) W (uv arg1 X1) n j
  hr : ∀ j, m ≤ j → j < 128 → wv arg10 S.w j y = W j
  he : ∀ j, j < n → wv arg11 S.e j y = er (s y) W (uv arg1 X1) j
  hc : ∀ j, j < n → ev arg12 S.ecol j y = er (s y) W (uv arg1 X1) j
  hq : ∀ q, 2 * q < n → qv arg13 S.code q y = pk (cd (s y) W (uv arg1 X1) (2 * q)) (cd (s y) W (uv arg1 X1) (2 * q + 1))

/-- The left-looking loop brings a panel up to the first column of it. -/
theorem left_inv (t2 : Fin k0_t2_loop.trips) (S : QS arg10 arg11 arg12 arg13 F)
    (h : QInv arg1 arg10 arg11 arg12 arg13 s W X1 y (16 * t2.val) (16 * t2.val) S) :
    QInv arg1 arg10 arg11 arg12 arg13 s W X1 y (16 * t2.val) (16 * t2.val + 16) ⟨loopEnd _ (step3 arg1 arg10 arg12 t2 X1 S.ecol) S.w, S.e, S.ecol, S.code⟩ := by
  have a2 := lt2 t2
  have key : ∀ m, m ≤ (k0_t3_loop t2).trips → ∀ j, 16 * t2.val ≤ j → j < 128 →
      wv arg10 (iter _ (step3 arg1 arg10 arg12 t2 X1 S.ecol) S.w m) j y = if j < 16 * t2.val + 16 then P (s y) W (uv arg1 X1) m j else W j := by
    intro m
    induction m with
    | zero => intro _ j h1 h2; rw [iter_zero, h.hr j h1 h2]; simp [P]
    | succ m ih =>
      intro hm j h1 h2
      have e := iter_succ _ (step3 arg1 arg10 arg12 t2 X1 S.ecol) S.w ⟨m, hm⟩
      have hm' : m < 16 * t2.val := lt_of_lt_of_eq hm (trips3 t2)
      rw [show m + 1 = (⟨m, hm⟩ : Fin (k0_t3_loop t2).trips).val + 1 from rfl, e, wv_step3 arg1 arg10 arg12 t2 X1 S.ecol _ _ y j h2]
      dsimp only
      rw [ih (by omega) j h1 h2, h.hc m hm']
      by_cases h3 : j < 16 * t2.val + 16
      · rw [if_pos ⟨h1, h3⟩, if_pos h3, if_pos h3]; rfl
      · rw [if_neg (by omega), if_neg h3, if_neg h3]
  have key' := key _ le_rfl
  refine ⟨fun j h1 h2 => ?_, fun j h1 h2 => ?_, h.he, h.hc, h.hq⟩
  · dsimp only; rw [loopEnd_eq, key' j h1 (by omega), if_pos h2, trips3]
  · dsimp only; rw [loopEnd_eq, key' j (by omega) h2, if_neg (by omega)]

/-- A pair of columns quantised. -/
theorem step7_inv (t2 : Fin k0_t2_loop.trips) (k : Fin k0_t7_loop.trips) (S : QS arg10 arg11 arg12 arg13 F)
    (h : QInv arg1 arg10 arg11 arg12 arg13 s W X1 y (16 * t2.val + 2 * k.val) (16 * t2.val + 16) S) :
    QInv arg1 arg10 arg11 arg12 arg13 s W X1 y (16 * t2.val + 2 * (k.val + 1)) (16 * t2.val + 16) (step7 arg1 arg10 arg11 arg12 arg13 s X1 t2 k S) := by
  have a2 := lt2 t2; have a7 := lt7 k
  obtain ⟨n, hn⟩ : ∃ n, n = 16 * t2.val + 2 * k.val := ⟨_, rfl⟩
  rw [← hn] at h
  rw [show 16 * t2.val + 2 * (k.val + 1) = n + 2 by omega]
  -- the even column, its error and the columns after it
  have cE : colE arg10 t2 k S.w y = P (s y) W (uv arg1 X1) n n := by
    rw [colE, read_col arg10 _ _ _ n (by rw [hn]; exact k0_off20_eq t2 k) (by omega), h.hw n le_rfl (by omega)]
  have dE : diaE arg1 t2 k X1 = uv arg1 X1 n n := by
    rw [diaE, read_u arg1 X1 _ _ n n (by rw [hn]; exact k0_off21_eq t2 k) (by omega) (by omega)]
  have wE : ∀ j, n + 1 ≤ j → j < 128 → wv arg10 (evenW arg1 arg10 s X1 t2 k S.w) j y
      = if j < 16 * t2.val + 16 then P (s y) W (uv arg1 X1) (n + 1) j else W j := by
    intro j h1 h2
    rw [wv_evenW arg1 arg10 s X1 t2 k S.w y n hn j h2, h.hw n le_rfl (by omega)]
    by_cases h3 : j < 16 * t2.val + 16
    · rw [if_pos ⟨h1, h3⟩, if_pos h3, h.hw j (by omega) h3]; rfl
    · rw [if_neg (by omega), if_neg h3, h.hr j (by omega) h2]
  have cO : colO arg10 t2 k (evenW arg1 arg10 s X1 t2 k S.w) y = P (s y) W (uv arg1 X1) (n + 1) (n + 1) := by
    rw [colO, read_col arg10 _ _ _ (n + 1) (by rw [hn]; exact k0_off27_eq t2 k) (by omega), wE (n + 1) le_rfl (by omega), if_pos (by omega)]
  have dO : diaO arg1 t2 k X1 = uv arg1 X1 (n + 1) (n + 1) := by
    rw [diaO, read_u arg1 X1 _ _ (n + 1) (n + 1) (by rw [hn]; exact k0_off28_eq t2 k) (by omega) (by omega)]
  have wO : ∀ j, n + 2 ≤ j → j < 128 → wv arg10 (oddW arg1 arg10 s X1 t2 k (evenW arg1 arg10 s X1 t2 k S.w)) j y
      = if j < 16 * t2.val + 16 then P (s y) W (uv arg1 X1) (n + 2) j else W j := by
    intro j h1 h2
    rw [wv_oddW arg1 arg10 s X1 t2 k _ y (n + 1) (by omega) j h2, (wE (n + 1) le_rfl (by omega)).trans (if_pos (by omega)), wE j (by omega) h2]
    by_cases h3 : j < 16 * t2.val + 16
    · rw [if_pos ⟨by omega, h3⟩, if_pos h3, if_pos h3]; rfl
    · rw [if_neg (by omega), if_neg h3, if_neg h3]
  unfold step7
  refine ⟨fun j h1 h2 => ?_, fun j h1 h2 => ?_, fun j h1 => ?_, fun j h1 => ?_, fun q h1 => ?_⟩ <;> dsimp only
  · exact (wO j h1 (by omega)).trans (if_pos h2)
  · exact (wO j (by omega) h2).trans (if_neg (by omega))
  · rw [write_col arg11 _ _ _ _ _ (n + 1) (by rw [hn]; exact k0_off27_eq t2 k) (by omega) j (by omega),
      write_col arg11 _ _ _ _ _ n (by rw [hn]; exact k0_off20_eq t2 k) (by omega) j (by omega), pay313_apply, pay306_apply, cO, cE, dO, dE]
    by_cases e1 : j = n + 1
    · rw [if_pos e1, e1]; rfl
    · rw [if_neg e1]
      by_cases e2 : j = n
      · rw [if_pos e2, e2]; rfl
      · rw [if_neg e2]; exact h.he j (by omega)
  · rw [write_e arg12 _ _ _ _ _ (n + 1) (by rw [hn]; exact k0_off33_eq t2 k) j (by omega),
      write_e arg12 _ _ _ _ _ n (by rw [hn]; exact k0_off26_eq t2 k) j (by omega), pay312_apply, pay305_apply, cO, cE, dO, dE]
    by_cases e1 : j = n + 1
    · rw [if_pos e1, e1]; rfl
    · rw [if_neg e1]
      by_cases e2 : j = n
      · rw [if_pos e2, e2]; rfl
      · rw [if_neg e2]; exact h.hc j (by omega)
  · rw [write_q arg13 _ _ _ _ _ (8 * t2.val + k.val) (k0_off34_eq t2 k) (by omega) q (by omega), pay314_apply, cO, cE]
    by_cases e1 : q = 8 * t2.val + k.val
    · rw [if_pos e1, show 2 * q = n by omega]; rfl
    · rw [if_neg e1]; exact h.hq q (by omega)

/-- One panel quantised. -/
theorem step2_inv (t2 : Fin k0_t2_loop.trips) (S : QS arg10 arg11 arg12 arg13 F)
    (h : QInv arg1 arg10 arg11 arg12 arg13 s W X1 y (16 * t2.val) (16 * t2.val) S) :
    QInv arg1 arg10 arg11 arg12 arg13 s W X1 y (16 * (t2.val + 1)) (16 * (t2.val + 1)) (step2 arg1 arg10 arg11 arg12 arg13 s X1 t2 S) := by
  rw [step2_eq]
  have h0 := left_inv arg1 arg10 arg11 arg12 arg13 s W X1 y t2 S h
  have key : ∀ m, m ≤ k0_t7_loop.trips → QInv arg1 arg10 arg11 arg12 arg13 s W X1 y (16 * t2.val + 2 * m) (16 * t2.val + 16)
      (iter _ (step7 arg1 arg10 arg11 arg12 arg13 s X1 t2) ⟨loopEnd _ (step3 arg1 arg10 arg12 t2 X1 S.ecol) S.w, S.e, S.ecol, S.code⟩ m) := by
    intro m
    induction m with
    | zero => intro _; exact h0
    | succ m ih =>
      intro hm
      have e := iter_succ _ (step7 arg1 arg10 arg11 arg12 arg13 s X1 t2) ⟨loopEnd _ (step3 arg1 arg10 arg12 t2 X1 S.ecol) S.w, S.e, S.ecol, S.code⟩ ⟨m, hm⟩
      rw [show m + 1 = (⟨m, hm⟩ : Fin k0_t7_loop.trips).val + 1 from rfl, e]
      exact step7_inv arg1 arg10 arg11 arg12 arg13 s W X1 y t2 ⟨m, hm⟩ _ (ih (by omega))
  have h1 := key _ le_rfl
  have e : 16 * t2.val + 2 * k0_t7_loop.trips = 16 * t2.val + 16 := by have := trips7; omega
  rw [e] at h1
  unfold panelEnd
  rw [show 16 * (t2.val + 1) = 16 * t2.val + 16 by omega]
  exact h1

/-- All the panels quantised. -/
theorem quant_inv (S : QS arg10 arg11 arg12 arg13 F) (h : ∀ j, j < 128 → wv arg10 S.w j y = W j) :
    QInv arg1 arg10 arg11 arg12 arg13 s W X1 y 128 128 (iter _ (step2 arg1 arg10 arg11 arg12 arg13 s X1) S k0_t2_loop.trips) := by
  have key : ∀ m, m ≤ k0_t2_loop.trips → QInv arg1 arg10 arg11 arg12 arg13 s W X1 y (16 * m) (16 * m)
      (iter _ (step2 arg1 arg10 arg11 arg12 arg13 s X1) S m) := by
    intro m
    induction m with
    | zero => intro _; exact ⟨fun j h1 h2 => by omega, fun j _ h2 => h j h2, fun j h1 => by omega, fun j h1 => by omega, fun q h1 => by omega⟩
    | succ m ih =>
      intro hm
      have e := iter_succ _ (step2 arg1 arg10 arg11 arg12 arg13 s X1) S ⟨m, hm⟩
      rw [show m + 1 = (⟨m, hm⟩ : Fin k0_t2_loop.trips).val + 1 from rfl, e]
      exact step2_inv arg1 arg10 arg11 arg12 arg13 s W X1 y ⟨m, hm⟩ _ (ih (by omega))
  have h1 := key _ le_rfl
  have e : 16 * k0_t2_loop.trips = 128 := by have := trips2; omega
  rw [e] at h1
  exact h1

end Cert.KernelIdeal.Hand
end
-- ==== Proof.Hand.Tiles.lean ====
module

public import proofs.«01_k».proof.Proof.Hand.Quant
public import Idealize.ShloMosaic.Lib.ValueIdxCore
public import Idealize.ShloMosaic.Lib.Pipeline.Value

@[expose] public section

set_option maxRecDepth 8192
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## One column recursion, lane by lane -/

/-! ## What a group's block gives, entry by entry -/

/-- Entry `j` of lane `n` of a block of weights. -/
def Wn (x2 : S1x128x1024.Idx → F .f32) (n j : ℕ) : F .f32 :=
  x2 (ix3 0 ⟨j % 128, Nat.mod_lt _ (by norm_num)⟩ ⟨n % 1024, Nat.mod_lt _ (by norm_num)⟩)

/-- Entry `(i, j)` of the triangle. -/
def ux (x1 : S128x128.Idx → F .f32) (i j : ℕ) : F .f32 := x1 (ix2 ⟨i % 128, Nat.mod_lt _ (by norm_num)⟩ ⟨j % 128, Nat.mod_lt _ (by norm_num)⟩)

/-- The largest absolute value among the entries up to `k`. -/
def AM (W : ℕ → F .f32) : ℕ → F .f32
  | 0 => FloatOps.absf (W 0)
  | k + 1 => FloatOps.maximumf (AM W k) (FloatOps.absf (W (k + 1)))

/-- The scale of a lane: a seventh of its largest absolute value, or one where that is zero. -/
def sc (W : ℕ → F .f32) : F .f32 :=
  Scalar.select (FloatOps.cmpf .oeq (AM W 127) (Scalar.ofBits .f32 0x00000000#32)) (Scalar.ofBits .f32 0x3F800000#32)
    (FloatOps.divf (AM W 127) (Scalar.ofBits .f32 0x40E00000#32))

/-- The error of entry `j` of lane `n`. -/
def EN (x1 : S128x128.Idx → F .f32) (x2 : S1x128x1024.Idx → F .f32) (n j : ℕ) : F .f32 := er (sc (Wn x2 n)) (Wn x2 n) (ux x1) j

/-- The code of entry `j` of lane `n`. -/
def CN (x1 : S128x128.Idx → F .f32) (x2 : S1x128x1024.Idx → F .f32) (n j : ℕ) : F .f32 := cd (sc (Wn x2 n)) (Wn x2 n) (ux x1) j

/-- The block of errors. -/
def EOUT (x1 : S128x128.Idx → F .f32) (x2 : S1x128x1024.Idx → F .f32) : S1x128x1024.Idx → F .f32 := fun z => EN x1 x2 (z 2).val (z 1).val

/-- The block of packed codes. -/
def COUT (x1 : S128x128.Idx → F .f32) (x2 : S1x128x1024.Idx → F .f32) : S1x64x1024.Idx → BitVec 8 :=
  fun z => BitVec.setWidth 8 (pk (CN x1 x2 (z 2).val (2 * (z 1).val)) (CN x1 x2 (z 2).val (2 * (z 1).val + 1)))

/-- The row of scales. -/
def SOUT (x2 : S1x128x1024.Idx → F .f32) : S1x1x1024.Idx → F .f32 := fun z => sc (Wn x2 (z 2).val)

/-- The number of a lane. -/
def ln (y : S8x128.Idx) : ℕ := 128 * (y 0).val + (y 1).val

/-- The place of lane number `n`. -/
def ly (r : Fin 8) (l : Fin 128) : S8x128.Idx := ix2 r l

/-! ## The pieces of the stores, row of lanes by row of lanes -/

theorem b10 (r : Fin 8) : ∀ a, (![136 * r.val, 0] : Fin 2 → ℕ) a + S128x128.size a ≤ S1088x128.size a := by
  have := r.isLt; intro a; match a with
  | ⟨0, _⟩ => exact (show 136 * r.val + 128 ≤ 1088 by omega)
  | ⟨1, _⟩ => exact (show 0 + 128 ≤ 128 by omega)
theorem b13 (r : Fin 8) : ∀ a, (![72 * r.val, 0] : Fin 2 → ℕ) a + S64x128.size a ≤ S576x128.size a := by
  have := r.isLt; intro a; match a with
  | ⟨0, _⟩ => exact (show 72 * r.val + 64 ≤ 576 by omega)
  | ⟨1, _⟩ => exact (show 0 + 128 ≤ 128 by omega)
theorem b2 (r : Fin 8) : ∀ a, (![0, 0, 128 * r.val] : Fin 3 → ℕ) a + S1x128x128.size a ≤ S1x128x1024.size a := by
  have := r.isLt; intro a; match a with
  | ⟨0, _⟩ => exact (show 0 + 1 ≤ 1 by omega)
  | ⟨1, _⟩ => exact (show 0 + 128 ≤ 128 by omega)
  | ⟨2, _⟩ => exact (show 128 * r.val + 128 ≤ 1024 by omega)
theorem b6 (r : Fin 8) : ∀ a, (![0, 0, 128 * r.val] : Fin 3 → ℕ) a + S1x64x128.size a ≤ S1x64x1024.size a := by
  have := r.isLt; intro a; match a with
  | ⟨0, _⟩ => exact (show 0 + 1 ≤ 1 by omega)
  | ⟨1, _⟩ => exact (show 0 + 64 ≤ 64 by omega)
  | ⟨2, _⟩ => exact (show 128 * r.val + 128 ≤ 1024 by omega)
theorem b7 (r : Fin 8) : ∀ a, (![0, 0, 128 * r.val] : Fin 3 → ℕ) a + S1x1x128.size a ≤ S1x1x1024.size a := by
  have := r.isLt; intro a; match a with
  | ⟨0, _⟩ => exact (show 0 + 1 ≤ 1 by omega)
  | ⟨1, _⟩ => exact (show 0 + 1 ≤ 1 by omega)
  | ⟨2, _⟩ => exact (show 128 * r.val + 128 ≤ 1024 by omega)

variable (arg1 : Memref sig .tc .smem S128x128 .f32) (arg2 : Memref sig .tc .vmem S1x128x1024 .f32)
  (arg5 : Memref sig .tc .vmem S1x128x1024 .f32) (arg6 : Memref sig .tc .vmem S1x64x1024 .i8) (arg7 : Memref sig .tc .vmem S1x1x1024 .f32)
  (arg10 : Memref sig .tc .vmem S1088x128 .f32) (arg11 : Memref sig .tc .vmem S1088x128 .f32)
  (arg12 : Memref sig .tc .vmem S128x8x128 .f32) (arg13 : Memref sig .tc .vmem S576x128 .i32)

/-- The store of row `r` of lanes into the scratch of columns. -/
def pc10 (X2 : BufTy.Contents (Elt F) arg2.view.ty) (r : Fin 8) : View.Piece (Elt F) S1088x128 .f32 :=
  ⟨Rect.unit (s := S1088x128) ![136 * r.val, 0] S128x128.size (b10 r), k0_pay318 (View.readAt (Elt F) arg2.view (Rect.unit (s := S1x128x1024) ![0, 0, 128 * r.val] S1x128x128.size (b2 r)).toLoadRect X2)⟩
/-- The store of row `r` of lanes of the errors. -/
def pc5 (X11 : BufTy.Contents (Elt F) arg11.view.ty) (r : Fin 8) : View.Piece (Elt F) S1x128x1024 .f32 :=
  ⟨Rect.unit (s := S1x128x1024) ![0, 0, 128 * r.val] S1x128x128.size (b2 r), k0_pay359 (View.readAt (Elt F) arg11.view (Rect.unit (s := S1088x128) ![136 * r.val, 0] S128x128.size (b10 r)).toLoadRect X11)⟩
/-- The store of row `r` of lanes of the packed codes. -/
def pc6 (X13 : BufTy.Contents (Elt F) arg13.view.ty) (r : Fin 8) : View.Piece (Elt F) S1x64x1024 .i8 :=
  ⟨Rect.unit (s := S1x64x1024) ![0, 0, 128 * r.val] S1x64x128.size (b6 r), k0_pay1 (View.readAt (Elt F) arg13.view (Rect.unit (s := S576x128) ![72 * r.val, 0] S64x128.size (b13 r)).toLoadRect X13)⟩

/-- Eight pieces are one each row of lanes. -/
theorem mem8 {α : Type*} (pc : Fin 8 → α) (p : α) (h : p ∈ [pc 7, pc 6, pc 5, pc 4, pc 3, pc 2, pc 1, pc 0]) : ∃ r, p = pc r := by
  simp only [List.mem_cons, List.not_mem_nil, or_false] at h
  rcases h with h | h | h | h | h | h | h | h <;> exact ⟨_, h⟩
theorem of_mem8 {α : Type*} (pc : Fin 8 → α) (r : Fin 8) : pc r ∈ [pc 7, pc 6, pc 5, pc 4, pc 3, pc 2, pc 1, pc 0] := by
  fin_cases r <;> simp

theorem pay318_apply (v : Vec F S1x128x128 .f32) (x : S128x128.Idx) : k0_pay318 v x = v (ix3 0 (x 0) (x 1)) := by
  unfold k0_pay318; rw [shapeCast_self]
  refine shapeCast_apply v _ x (ix3 0 (x 0) (x 1)) ?_
  rw [Shape.rowMajor_val_three, Shape.rowMajor_val_two]; simp
theorem pay359_apply (v : Vec F S128x128 .f32) (x : S1x128x128.Idx) : k0_pay359 v x = v (ix2 (x 1) (x 2)) := by
  unfold k0_pay359
  refine shapeCast_apply v _ x (ix2 (x 1) (x 2)) ?_
  have h0 : (x 0).val = 0 := by have : (x 0).val < 1 := (x 0).isLt; omega
  rw [Shape.rowMajor_val_three, Shape.rowMajor_val_two]; simp [h0]
theorem pay1_apply (v : Vec F S64x128 .i32) (x : S1x64x128.Idx) : k0_pay1 v x = BitVec.setWidth 8 (v (ix2 (x 1) (x 2))) := by
  unfold k0_pay1
  refine (shapeCast_apply _ _ x (ix2 (x 1) (x 2)) ?_).trans ?_
  · have h0 : (x 0).val = 0 := by have : (x 0).val < 1 := (x 0).isLt; omega
    rw [Shape.rowMajor_val_three, Shape.rowMajor_val_two]; simp [h0]
  · rfl

/-- The eight loads and stores put entry `j` of every lane in the scratch of columns. -/
theorem cols_in (X2 : BufTy.Contents (Elt F) arg2.view.ty) (f10 : BufTy.Contents (Elt F) arg10.view.ty) (y : S8x128.Idx) (j : ℕ) (hj : j < 128) :
    wv arg10 (arg10.view.writes (Elt F) f10 [pc10 arg2 X2 7, pc10 arg2 X2 6, pc10 arg2 X2 5, pc10 arg2 X2 4, pc10 arg2 X2 3, pc10 arg2 X2 2, pc10 arg2 X2 1, pc10 arg2 X2 0]) j y
      = Wn (View.read (Elt F) arg2.view X2) (ln y) j := by
  have h0 := y0_lt y
  have h1 : (y 1).val < 128 := (y 1).isLt
  unfold wv
  refine (View.read_writes_apply_of_pieces arg10.view f10
    (fun z => Wn (View.read (Elt F) arg2.view X2) (128 * ((z 0).val / 136) + (z 1).val) ((z 0).val % 136)) _ ?_ _ ?_).trans ?_
  · intro p hp x
    obtain ⟨r, rfl⟩ := mem8 _ p hp
    have hx0 : (x 0).val < 128 := (x 0).isLt
    have hx1 : (x 1).val < 128 := (x 1).isLt
    have hr := r.isLt
    refine (pay318_apply (F := F) (View.readAt (Elt F) arg2.view (Rect.unit (s := S1x128x1024) ![0, 0, 128 * r.val] S1x128x128.size (b2 r)).toLoadRect X2) x).trans ?_
    rw [View.readAt_apply]
    have e0 : (((pc10 arg2 X2 r).1.emb x) 0).val = 136 * r.val + (x 0).val := by show 136 * r.val + 1 * (x 0).val = _; omega
    have e1 : (((pc10 arg2 X2 r).1.emb x) 1).val = (x 1).val := by show 0 + 1 * (x 1).val = _; omega
    show _ = View.read (Elt F) arg2.view X2 (ix3 _ _ _)
    refine congrArg _ (funext fun d => Fin.ext ?_)
    match d with
    | ⟨0, _⟩ => rfl
    | ⟨1, _⟩ => show 0 + 1 * (x 0).val = _ % 136 % 128; rw [e0]; omega
    | ⟨2, _⟩ => show 128 * r.val + 1 * (x 1).val = (128 * (_ / 136) + _) % 1024; rw [e0, e1]; omega
  · refine ⟨pc10 arg2 X2 (y 0), of_mem8 _ _, (LoadRect.mem_set _).2 fun d => ?_⟩
    match d with
    | ⟨0, _⟩ => exact ⟨j, hj, by rw [show (cIdx j y ⟨0, by decide⟩).val = _ from cIdx0 j (by omega) y]; show _ = 136 * (y 0).val + 1 * j; omega⟩
    | ⟨1, _⟩ => exact ⟨(y 1).val, h1, by show (y 1).val = 0 + 1 * (y 1).val; omega⟩
  · have e := cIdx0 j (by omega) y
    show Wn _ (128 * ((cIdx j y 0).val / 136) + (y 1).val) ((cIdx j y 0).val % 136) = _
    rw [e, show (136 * (y 0).val + j) / 136 = (y 0).val by omega, show (136 * (y 0).val + j) % 136 = j by omega]; rfl

/-- The eight loads and stores of the errors leave the block of errors. -/
theorem errs_out (G : ℕ → ℕ → F .f32) (X11 : BufTy.Contents (Elt F) arg11.view.ty) (hX : ∀ y j, j < 128 → wv arg11 X11 j y = G (ln y) j)
    (f5 : BufTy.Contents (Elt F) arg5.view.ty) :
    View.read (Elt F) arg5.view (arg5.view.writes (Elt F) f5 [pc5 arg11 X11 7, pc5 arg11 X11 6, pc5 arg11 X11 5, pc5 arg11 X11 4, pc5 arg11 X11 3, pc5 arg11 X11 2, pc5 arg11 X11 1, pc5 arg11 X11 0])
      = fun z => G (z 2).val (z 1).val := by
  funext z
  have hz2 : (z 2).val < 1024 := (z 2).isLt
  refine View.read_writes_apply_of_pieces arg5.view f5 (fun z => G (z 2).val (z 1).val) _ ?_ _ ?_
  · intro p hp x
    obtain ⟨r, rfl⟩ := mem8 _ p hp
    have hr := r.isLt
    have hx0 : (x 0).val < 1 := (x 0).isLt
    have hx1 : (x 1).val < 128 := (x 1).isLt
    have hx2 : (x 2).val < 128 := (x 2).isLt
    refine (pay359_apply (F := F) (View.readAt (Elt F) arg11.view (Rect.unit (s := S1088x128) ![136 * r.val, 0] S128x128.size (b10 r)).toLoadRect X11) x).trans ?_
    rw [View.readAt_apply]
    have e := hX (ix2 r (x 2)) (x 1).val hx1
    refine Eq.trans (congrArg _ (funext fun d => Fin.ext ?_)) (e.trans ?_)
    · match d with
      | ⟨0, _⟩ => rw [show (cIdx (x 1).val (ix2 r (x 2)) ⟨0, by decide⟩).val = _ from cIdx0 _ (by omega) _]; show 136 * r.val + 1 * (x 1).val = _; rw [one_mul]
      | ⟨1, _⟩ => show 0 + 1 * (x 2).val = (x 2).val; omega
    · show G (128 * r.val + (x 2).val) (x 1).val = G (128 * r.val + 1 * (x 2).val) (0 + 1 * (x 1).val)
      rw [one_mul, one_mul, zero_add]
  · refine ⟨pc5 arg11 X11 ⟨(z 2).val / 128, by omega⟩, of_mem8 _ _, (LoadRect.mem_set _).2 fun d => ?_⟩
    match d with
    | ⟨0, _⟩ => exact ⟨(z 0).val, (z 0).isLt, by show (z 0).val = 0 + 1 * (z 0).val; omega⟩
    | ⟨1, _⟩ => exact ⟨(z 1).val, (z 1).isLt, by show (z 1).val = 0 + 1 * (z 1).val; omega⟩
    | ⟨2, _⟩ => exact ⟨(z 2).val % 128, Nat.mod_lt _ (by norm_num), by show (z 2).val = 128 * ((z 2).val / 128) + 1 * ((z 2).val % 128); omega⟩

/-- The eight loads and stores of the packed codes leave the block of codes. -/
theorem codes_out (G : ℕ → ℕ → BitVec 32) (X13 : BufTy.Contents (Elt F) arg13.view.ty) (hX : ∀ y q, q < 64 → qv arg13 X13 q y = G (ln y) q)
    (f6 : BufTy.Contents (Elt F) arg6.view.ty) :
    View.read (Elt F) arg6.view (arg6.view.writes (Elt F) f6 [pc6 arg13 X13 7, pc6 arg13 X13 6, pc6 arg13 X13 5, pc6 arg13 X13 4, pc6 arg13 X13 3, pc6 arg13 X13 2, pc6 arg13 X13 1, pc6 arg13 X13 0])
      = fun z => BitVec.setWidth 8 (G (z 2).val (z 1).val) := by
  funext z
  have hz2 : (z 2).val < 1024 := (z 2).isLt
  refine View.read_writes_apply_of_pieces arg6.view f6 (fun z => BitVec.setWidth 8 (G (z 2).val (z 1).val)) _ ?_ _ ?_
  · intro p hp x
    obtain ⟨r, rfl⟩ := mem8 _ p hp
    have hr := r.isLt
    have hx0 : (x 0).val < 1 := (x 0).isLt
    have hx1 : (x 1).val < 64 := (x 1).isLt
    have hx2 : (x 2).val < 128 := (x 2).isLt
    refine (pay1_apply (F := F) (View.readAt (Elt F) arg13.view (Rect.unit (s := S576x128) ![72 * r.val, 0] S64x128.size (b13 r)).toLoadRect X13) x).trans (congrArg _ ?_)
    rw [View.readAt_apply]
    have e := hX (ix2 r (x 2)) (x 1).val hx1
    refine Eq.trans (congrArg _ (funext fun d => Fin.ext ?_)) (e.trans ?_)
    · match d with
      | ⟨0, _⟩ => rw [show (qIdx (x 1).val (ix2 r (x 2)) ⟨0, by decide⟩).val = _ from qIdx0 _ (by omega) _]; show 72 * r.val + 1 * (x 1).val = _; rw [one_mul]
      | ⟨1, _⟩ => show 0 + 1 * (x 2).val = (x 2).val; omega
    · show G (128 * r.val + (x 2).val) (x 1).val = G (128 * r.val + 1 * (x 2).val) (0 + 1 * (x 1).val)
      rw [one_mul, one_mul, zero_add]
  · refine ⟨pc6 arg13 X13 ⟨(z 2).val / 128, by omega⟩, of_mem8 _ _, (LoadRect.mem_set _).2 fun d => ?_⟩
    match d with
    | ⟨0, _⟩ => exact ⟨(z 0).val, (z 0).isLt, by show (z 0).val = 0 + 1 * (z 0).val; omega⟩
    | ⟨1, _⟩ => exact ⟨(z 1).val, (z 1).isLt, by show (z 1).val = 0 + 1 * (z 1).val; omega⟩
    | ⟨2, _⟩ => exact ⟨(z 2).val % 128, Nat.mod_lt _ (by norm_num), by show (z 2).val = 128 * ((z 2).val / 128) + 1 * ((z 2).val % 128); omega⟩

/-! ## The columns quantised -/

/-- The errors and the packed codes after all panels, at every lane. -/
theorem quant_all (X1 : BufTy.Contents (Elt F) arg1.view.ty) (x2 : S1x128x1024.Idx → F .f32) (X10 : BufTy.Contents (Elt F) arg10.view.ty)
    (h10 : ∀ y j, j < 128 → wv arg10 X10 j y = Wn x2 (ln y) j) (s : FVec F S8x128 .f32) (hs : ∀ y, s y = sc (Wn x2 (ln y))) (f11 : BufTy.Contents (Elt F) arg11.view.ty)
    (f12 : BufTy.Contents (Elt F) arg12.view.ty) (f13 : BufTy.Contents (Elt F) arg13.view.ty) :
    (∀ y j, j < 128 → wv arg11 (iter k0_t2_loop.trips (step2 arg1 arg10 arg11 arg12 arg13 s X1) { w := X10, e := f11, ecol := f12, code := f13 } k0_t2_loop.trips).e j y
        = EN (View.read (Elt F) arg1.view X1) x2 (ln y) j)
    ∧ (∀ y q, q < 64 → qv arg13 (iter k0_t2_loop.trips (step2 arg1 arg10 arg11 arg12 arg13 s X1) { w := X10, e := f11, ecol := f12, code := f13 } k0_t2_loop.trips).code q y
        = pk (CN (View.read (Elt F) arg1.view X1) x2 (ln y) (2 * q)) (CN (View.read (Elt F) arg1.view X1) x2 (ln y) (2 * q + 1))) := by
  refine ⟨fun y j hj => ?_, fun y q hq => ?_⟩
  · have h := (quant_inv arg1 arg10 arg11 arg12 arg13 s (Wn x2 (ln y)) X1 y { w := X10, e := f11, ecol := f12, code := f13 } (fun j hj => h10 y j hj)).he j hj
    rw [h, hs]; rfl
  · have h := (quant_inv arg1 arg10 arg11 arg12 arg13 s (Wn x2 (ln y)) X1 y { w := X10, e := f11, ecol := f12, code := f13 } (fun j hj => h10 y j hj)).hq q (by omega)
    rw [h, hs]; rfl

end Cert.KernelIdeal.Hand
end
-- ==== Proof.Hand.Parts.lean ====
module

public import proofs.«01_k».proof.Proof.Hand.Tiles
public import Idealize.ShloMosaic.Lib.ValueIdxCore
public import Idealize.ShloMosaic.Lib.Pipeline.Value

@[expose] public section

set_option maxRecDepth 8192
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## One column recursion, lane by lane -/

/-! ## The scales -/

variable (arg3 : Memref sig .tc .vmem S128x4096 .f32) (arg4 : Memref sig .tc .vmem S1x3968x1024 .f32)
  (arg7 : Memref sig .tc .vmem S1x1x1024 .f32) (arg8 : Memref sig .tc .vmem S2x3968x256 .bf16) (arg9 : Memref sig .tc .vmem S2x3x128x1024 .bf16)
  (arg10 : Memref sig .tc .vmem S1088x128 .f32) (arg11 : Memref sig .tc .vmem S1088x128 .f32)

/-- The eight rows of lanes of one value, each stored on its own. -/
def pc7 (s : FVec F S8x128 .f32) (r : Fin 8) (h : S8x128.Slices ![r.val, 0] S1x128) : View.Piece (Elt F) S1x1x1024 .f32 :=
  ⟨Rect.unit (s := S1x1x1024) ![0, 0, 128 * r.val] S1x1x128.size (b7 r), k0_pay339 (extractStridedSlice S1x128 ![r.val, 0] s h)⟩

theorem pay339_apply (s : FVec F S8x128 .f32) (r : Fin 8) (h : S8x128.Slices ![r.val, 0] S1x128) (x : S1x1x128.Idx) :
    k0_pay339 (extractStridedSlice S1x128 ![r.val, 0] s h) x = s (ix2 r (x 2)) := by
  have h0 : (x 0).val = 0 := by have : (x 0).val < 1 := (x 0).isLt; omega
  have h1 : (x 1).val = 0 := by have : (x 1).val < 1 := (x 1).isLt; omega
  unfold k0_pay339
  refine (shapeCast_apply _ _ x (ix2 (x 1) (x 2)) ?_).trans ?_
  · rw [Shape.rowMajor_val_three, Shape.rowMajor_val_two]; simp [h0]
  · refine extractStridedSlice_apply _ s h _ (ix2 r (x 2)) fun a => ?_
    match a with
    | ⟨0, _⟩ => exact (show r.val = r.val + (x 1).val by omega)
    | ⟨1, _⟩ => exact (show (x 2).val = 0 + (x 2).val by omega)

/-- The eight stores of the scales leave the row of scales. -/
theorem scales_out (x2 : S1x128x1024.Idx → F .f32) (s : FVec F S8x128 .f32) (hs : ∀ y, s y = sc (Wn x2 (ln y))) (f7 : BufTy.Contents (Elt F) arg7.view.ty) (h7 h6 h5 h4 h3 h2 h1 h0) :
    View.read (Elt F) arg7.view (arg7.view.writes (Elt F) f7 [pc7 s 7 h7, pc7 s 6 h6, pc7 s 5 h5, pc7 s 4 h4, pc7 s 3 h3, pc7 s 2 h2, pc7 s 1 h1, pc7 s 0 h0])
      = SOUT x2 := by
  have hh : ∀ r : Fin 8, S8x128.Slices ![r.val, 0] S1x128 := by
    intro r; fin_cases r <;> assumption
  funext z
  have hz0 : (z 0).val < 1 := (z 0).isLt
  have hz1 : (z 1).val < 1 := (z 1).isLt
  have hz2 : (z 2).val < 1024 := (z 2).isLt
  refine View.read_writes_apply_of_pieces arg7.view f7 (SOUT x2) _ ?_ _ ?_
  · intro p hp x
    obtain ⟨r, rfl⟩ := mem8 (fun r => pc7 s r (hh r)) p hp
    have hr := r.isLt
    have hx2 : (x 2).val < 128 := (x 2).isLt
    refine (pay339_apply s r (hh r) x).trans ((hs _).trans ?_)
    show sc (Wn x2 (128 * r.val + (x 2).val)) = sc (Wn x2 (128 * r.val + 1 * (x 2).val))
    rw [one_mul]
  · refine ⟨pc7 s ⟨(z 2).val / 128, by omega⟩ (hh _), of_mem8 (fun r => pc7 s r (hh r)) _, (LoadRect.mem_set _).2 fun d => ?_⟩
    match d with
    | ⟨0, _⟩ => exact ⟨(z 0).val, (z 0).isLt, by show (z 0).val = 0 + 1 * (z 0).val; omega⟩
    | ⟨1, _⟩ => exact ⟨(z 1).val, (z 1).isLt, by show (z 1).val = 0 + 1 * (z 1).val; omega⟩
    | ⟨2, _⟩ => exact ⟨(z 2).val % 128, Nat.mod_lt _ (by norm_num), by show (z 2).val = 128 * ((z 2).val / 128) + 1 * ((z 2).val % 128); omega⟩

theorem trips1 : k0_t1_loop.trips = 127 := by decide +kernel

/-- The scale worked out from the largest absolute value. -/
theorem scale_at (A : FVec F S8x128 .f32) (W : S8x128.Idx → ℕ → F .f32) (h : ∀ y, A y = AM (W y) 127) (y : S8x128.Idx) :
    select (k0_pay328 A) (broadcast S8x128 (Scalar.ofBits .f32 1065353216#32)) (k0_pay329 A) y = sc (W y) := by
  unfold sc; rw [← h]; rfl

/-! ## The three bf16 parts of a number -/

/-- The leading part. -/
def hiS (x : F .f32) : F .bf16 := FloatOps.truncf .bf16 bitsLt_bf16_f32 x
/-- What the leading part leaves. -/
def r1S (x : F .f32) : F .f32 := FloatOps.subf x (FloatOps.extf .f32 bitsLt_bf16_f32 (hiS x))
/-- The middle part. -/
def miS (x : F .f32) : F .bf16 := hiS (r1S x)
/-- The last part. -/
def loS (x : F .f32) : F .bf16 := hiS (FloatOps.subf (r1S x) (FloatOps.extf .f32 bitsLt_bf16_f32 (miS x)))

/-- Part `q` of a number. -/
def prt (q : ℕ) (x : F .f32) : F .bf16 := if q = 0 then hiS x else if q = 1 then miS x else loS x

/-! ## The errors kept for the update -/

/-- One slot of the kept errors holds the three parts of the errors `e` (lane, column). -/
def Kept (d : S2x3x128x1024.Idx → F .bf16) (slot : ℕ) (e : ℕ → ℕ → F .f32) : Prop :=
  ∀ z : S2x3x128x1024.Idx, (z 0).val = slot → d z = prt (z 1).val (e (z 3).val (z 2).val)

/-- The split block of part `q` of a tile. -/
theorem pay346_apply (v : Vec F S128x128 .f32) (x : S1x1x128x128.Idx) : k0_pay346 v x = prt 0 (v (ix2 (x 2) (x 3))) := by
  have h0 : (x 0).val = 0 := by have : (x 0).val < 1 := (x 0).isLt; omega
  have h1 : (x 1).val = 0 := by have : (x 1).val < 1 := (x 1).isLt; omega
  unfold k0_pay346
  refine (shapeCast_apply _ _ x (ix2 (x 2) (x 3)) ?_).trans rfl
  rw [Shape.rowMajor_val_four, Shape.rowMajor_val_two]; simp [h0, h1]
theorem pay347_apply (v : Vec F S128x128 .f32) (x : S1x1x128x128.Idx) : k0_pay347 v x = prt 1 (v (ix2 (x 2) (x 3))) := by
  have h0 : (x 0).val = 0 := by have : (x 0).val < 1 := (x 0).isLt; omega
  have h1 : (x 1).val = 0 := by have : (x 1).val < 1 := (x 1).isLt; omega
  unfold k0_pay347
  refine (shapeCast_apply _ _ x (ix2 (x 2) (x 3)) ?_).trans rfl
  rw [Shape.rowMajor_val_four, Shape.rowMajor_val_two]; simp [h0, h1]
theorem pay348_apply (v : Vec F S128x128 .f32) (x : S1x1x128x128.Idx) : k0_pay348 v x = prt 2 (v (ix2 (x 2) (x 3))) := by
  have h0 : (x 0).val = 0 := by have : (x 0).val < 1 := (x 0).isLt; omega
  have h1 : (x 1).val = 0 := by have : (x 1).val < 1 := (x 1).isLt; omega
  unfold k0_pay348
  refine (shapeCast_apply _ _ x (ix2 (x 2) (x 3)) ?_).trans rfl
  rw [Shape.rowMajor_val_four, Shape.rowMajor_val_two]; simp [h0, h1]

/-- The tile of row `r` of lanes in the scratch of errors. -/
def til (X11 : BufTy.Contents (Elt F) arg11.view.ty) (r : Fin 8) : Vec F S128x128 .f32 :=
  View.readAt (Elt F) arg11.view (Rect.unit (s := S1088x128) ![136 * r.val, 0] S128x128.size (b10 r)).toLoadRect X11

theorem til_apply (G : ℕ → ℕ → F .f32) (X11 : BufTy.Contents (Elt F) arg11.view.ty) (hX : ∀ y j, j < 128 → wv arg11 X11 j y = G (ln y) j) (r : Fin 8) (a b : Fin 128) :
    til arg11 X11 r (ix2 a b) = G (128 * r.val + b.val) a.val := by
  have ha := a.isLt
  refine Eq.trans (congrArg (View.read (Elt F) arg11.view X11) (funext fun d => Fin.ext ?_)) (hX (ix2 r b) a.val ha)
  match d with
  | ⟨0, _⟩ => rw [show (cIdx a.val (ix2 r b) ⟨0, by decide⟩).val = _ from cIdx0 _ (by omega) _]; show 136 * r.val + 1 * a.val = _; rw [one_mul]
  | ⟨1, _⟩ => show 0 + 1 * b.val = b.val; omega

/-- A store of part `q` of the tile of row `r` of lanes into a slot. -/
def pc9 (off : Fin 4 → ℕ) (h : ∀ a, off a + S1x1x128x128.size a ≤ S2x3x128x1024.size a) (w : Vec F S1x1x128x128 .bf16) : View.Piece (Elt F) S2x3x128x1024 .bf16 :=
  ⟨Rect.unit (s := S2x3x128x1024) off S1x1x128x128.size h, w⟩

/-- Whether every piece of a list is a piece of the kept errors, with the rows of lanes below `n` covered. -/
def Good9 (slot : ℕ) (G : ℕ → ℕ → F .f32) (n : ℕ) (L : List (View.Piece (Elt F) S2x3x128x1024 .bf16)) : Prop :=
  (∀ p ∈ L, ∀ x : p.1.shape.Idx, p.2 x = prt (p.1.emb x 1).val (G (p.1.emb x 3).val (p.1.emb x 2).val))
    ∧ ∀ z : S2x3x128x1024.Idx, (z 0).val = slot → (z 3).val < 128 * n → ∃ p ∈ L, z ∈ p.1.set

theorem good9_nil (slot : ℕ) (G : ℕ → ℕ → F .f32) : Good9 slot G 0 ([] : List (View.Piece (Elt F) S2x3x128x1024 .bf16)) :=
  ⟨fun p hp => absurd hp List.not_mem_nil, fun z _ hz => by omega⟩

/-- A store of part `q` of a row of lanes holds that part of its errors. -/
theorem pc9_val (G : ℕ → ℕ → F .f32) (X11 : BufTy.Contents (Elt F) arg11.view.ty) (hX : ∀ y j, j < 128 → wv arg11 X11 j y = G (ln y) j) (slot q : ℕ) (r : Fin 8)
    (o : Fin 4 → ℕ) (h : ∀ a, o a + S1x1x128x128.size a ≤ S2x3x128x1024.size a) (w : Vec F S1x1x128x128 .bf16) (e : o = ![slot, q, 0, 128 * r.val])
    (hw : ∀ x, w x = prt q (til arg11 X11 r (ix2 (x 2) (x 3)))) (x : S1x1x128x128.Idx) :
    (pc9 o h w).2 x = prt ((pc9 o h w).1.emb x 1).val (G ((pc9 o h w).1.emb x 3).val ((pc9 o h w).1.emb x 2).val) := by
  subst e
  have hx1 : (x 1).val < 1 := (x 1).isLt
  refine (hw x).trans ((congrArg _ (til_apply arg11 G X11 hX r (x 2) (x 3))).trans ?_)
  show prt q (G (128 * r.val + (x 3).val) (x 2).val) = prt (q + 1 * (x 1).val) (G (128 * r.val + 1 * (x 3).val) (0 + 1 * (x 2).val))
  rw [one_mul, one_mul, one_mul, zero_add, show q + (x 1).val = q by omega]

/-- The three stores of one more row of lanes keep the pieces good. -/
theorem good9_cons (G : ℕ → ℕ → F .f32) (X11 : BufTy.Contents (Elt F) arg11.view.ty) (hX : ∀ y j, j < 128 → wv arg11 X11 j y = G (ln y) j) (slot : ℕ) (r : Fin 8)
    (o0 o1 o2 : Fin 4 → ℕ) (h0 : ∀ a, o0 a + S1x1x128x128.size a ≤ S2x3x128x1024.size a) (h1 : ∀ a, o1 a + S1x1x128x128.size a ≤ S2x3x128x1024.size a) (h2 : ∀ a, o2 a + S1x1x128x128.size a ≤ S2x3x128x1024.size a)
    (e0 : o0 = ![slot, 0, 0, 128 * r.val]) (e1 : o1 = ![slot, 1, 0, 128 * r.val]) (e2 : o2 = ![slot, 2, 0, 128 * r.val])
    (L : List (View.Piece (Elt F) S2x3x128x1024 .bf16)) (hL : Good9 slot G r.val L) :
    Good9 slot G (r.val + 1) (pc9 o2 h2 (k0_pay348 (til arg11 X11 r)) :: pc9 o1 h1 (k0_pay347 (til arg11 X11 r)) :: pc9 o0 h0 (k0_pay346 (til arg11 X11 r)) :: L) := by
  obtain ⟨hL1, hL2⟩ := hL
  refine ⟨List.forall_mem_cons.2 ⟨pc9_val arg11 G X11 hX slot 2 r o2 h2 _ e2 (pay348_apply _), List.forall_mem_cons.2 ⟨pc9_val arg11 G X11 hX slot 1 r o1 h1 _ e1 (pay347_apply _),
    List.forall_mem_cons.2 ⟨pc9_val arg11 G X11 hX slot 0 r o0 h0 _ e0 (pay346_apply _), hL1⟩⟩⟩, fun z hz hz' => ?_⟩
  by_cases hlt : (z 3).val < 128 * r.val
  · obtain ⟨p, hp, hz⟩ := hL2 z hz hlt
    exact ⟨p, by simp only [List.mem_cons, hp, or_true], hz⟩
  · have hz1 : (z 1).val < 3 := (z 1).isLt
    have hz2 : (z 2).val < 128 := (z 2).isLt
    subst e0 e1 e2
    have hin : ∀ (q : ℕ) (h : ∀ a, ![slot, q, 0, 128 * r.val] a + S1x1x128x128.size a ≤ S2x3x128x1024.size a) (w), (z 1).val = q → z ∈ (pc9 (F := F) ![slot, q, 0, 128 * r.val] h w).1.set := fun q h w hq =>
      (LoadRect.mem_set _).2 fun d => by
        match d with
        | ⟨0, _⟩ => exact ⟨0, Nat.one_pos, by show (z 0).val = slot + 1 * 0; omega⟩
        | ⟨1, _⟩ => exact ⟨0, Nat.one_pos, by show (z 1).val = q + 1 * 0; omega⟩
        | ⟨2, _⟩ => exact ⟨(z 2).val, hz2, by show (z 2).val = 0 + 1 * (z 2).val; omega⟩
        | ⟨3, _⟩ => exact ⟨(z 3).val - 128 * r.val, by show _ < 128; omega, by show (z 3).val = 128 * r.val + 1 * ((z 3).val - 128 * r.val); omega⟩
    have hc : (z 1).val = 0 ∨ (z 1).val = 1 ∨ (z 1).val = 2 := by omega
    rcases hc with hq | hq | hq
    · exact ⟨_, by simp only [List.mem_cons, true_or, or_true], hin 0 h0 (k0_pay346 (til arg11 X11 r)) hq⟩
    · exact ⟨_, by simp only [List.mem_cons, true_or, or_true], hin 1 h1 (k0_pay347 (til arg11 X11 r)) hq⟩
    · exact ⟨_, by simp only [List.mem_cons, true_or], hin 2 h2 (k0_pay348 (til arg11 X11 r)) hq⟩

/-- Good pieces for all the rows of lanes leave the errors in the slot. -/
theorem kept_out (G : ℕ → ℕ → F .f32) (f9 : BufTy.Contents (Elt F) arg9.view.ty) (slot : ℕ) (L : List (View.Piece (Elt F) S2x3x128x1024 .bf16)) (hL : Good9 slot G 8 L) :
    Kept (View.read (Elt F) arg9.view (arg9.view.writes (Elt F) f9 L)) slot G := by
  intro z hz
  have hz3 : (z 3).val < 1024 := (z 3).isLt
  exact View.read_writes_apply_of_pieces arg9.view f9 (fun z => prt (z 1).val (G (z 3).val (z 2).val)) _ hL.1 z (hL.2 z hz (by omega))

end Cert.KernelIdeal.Hand
end
-- ==== Proof.Hand.Amax.lean ====
module

public import proofs.«01_k».proof.Proof.Hand.Parts
public import Idealize.ShloMosaic.Lib.ValueIdxCore
public import Idealize.ShloMosaic.Lib.Pipeline.Value

@[expose] public section

set_option maxRecDepth 8192
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## One column recursion, lane by lane -/

variable (𝒱 : Variants) (c : Dev nD) (bd : Option 𝒱.V) (i : grid0.Coords) (arg1 : Memref sig .tc .smem S128x128 .f32) (harg1 : arg1.IsWhole) (arg2 : Memref sig .tc .vmem S1x128x1024 .f32) (harg2 : arg2.IsWhole) (arg3 : Memref sig .tc .vmem S128x4096 .f32) (harg3 : arg3.IsWhole) (arg4 : Memref sig .tc .vmem S1x3968x1024 .f32) (harg4 : arg4.IsWhole) (arg5 : Memref sig .tc .vmem S1x128x1024 .f32) (harg5 : arg5.IsWhole) (arg6 : Memref sig .tc .vmem S1x64x1024 .i8) (harg6 : arg6.IsWhole) (arg7 : Memref sig .tc .vmem S1x1x1024 .f32) (harg7 : arg7.IsWhole) (arg8 : Memref sig .tc .vmem S2x3968x256 .bf16) (harg8 : arg8.IsWhole) (arg9 : Memref sig .tc .vmem S2x3x128x1024 .bf16) (harg9 : arg9.IsWhole) (arg10 : Memref sig .tc .vmem S1088x128 .f32) (harg10 : arg10.IsWhole) (arg11 : Memref sig .tc .vmem S1088x128 .f32) (harg11 : arg11.IsWhole) (arg12 : Memref sig .tc .vmem S128x8x128 .f32) (harg12 : arg12.IsWhole) (arg13 : Memref sig .tc .vmem S576x128 .i32) (harg13 : arg13.IsWhole)

/-- One trip of the loop over the columns takes the larger of the value carried and the column's absolute value. -/
theorem tripR1 (X : BufTy.Contents (Elt F) arg10.view.ty) (k : Fin k0_t1_loop.trips) (acc : FVec F S8x128 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X k acc
      = k0_pay327 acc (View.readAt (Elt F) arg10.view (colRect (k0_off13 k) (k0_off13_inb k)) X) := by
  unfold tripR_k0_t1 trip_k0_t1
  rfl

/-- What the loop carries at a lane: the largest absolute value so far. -/
theorem amax_at (X : BufTy.Contents (Elt F) arg10.view.ty) (W : ℕ → F .f32) (y : S8x128.Idx) (hX : ∀ j, j < 128 → wv arg10 X j y = W j)
    (init : FVec F S8x128 .f32) (hi : init y = FloatOps.absf (W 0)) :
    ∀ n, n ≤ k0_t1_loop.trips → st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X init n y = AM W n := by
  intro n
  induction n with
  | zero => intro _; exact hi
  | succ n ih =>
    intro hn
    have h127 := trips1
    rw [show n + 1 = (⟨n, hn⟩ : Fin k0_t1_loop.trips).val + 1 from rfl, st_k0_t1_succ, tripR1]
    show FloatOps.maximumf _ (FloatOps.absf _) = _
    rw [ih (by omega), read_col arg10 X _ _ (n + 1) (k0_off13_eq _) (by omega) y, hX _ (by omega)]
    rfl

/-- The scale at every lane. -/
theorem scale_all (x2 : S1x128x1024.Idx → F .f32) (X : BufTy.Contents (Elt F) arg10.view.ty) (hX : ∀ y j, j < 128 → wv arg10 X j y = Wn x2 (ln y) j)
    (L : List (View.Piece (Elt F) S1088x128 .f32)) (h) (hL : ∀ y, wv arg10 (arg10.view.writes (Elt F) arg10.view.junk L) 0 y = Wn x2 (ln y) 0) (y : S8x128.Idx) :
    select (k0_pay328 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X (k0_pay326 (arg10.view.readCov L (colRect ![0, 0] h))) k0_t1_loop.trips))
      (broadcast S8x128 (Scalar.ofBits .f32 1065353216#32))
      (k0_pay329 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X (k0_pay326 (arg10.view.readCov L (colRect ![0, 0] h))) k0_t1_loop.trips)) y
      = sc (Wn x2 (ln y)) := by
  refine scale_at _ (fun y => Wn x2 (ln y)) (fun y => ?_) y
  refine (amax_at 𝒱 c bd i arg1 harg1 arg2 harg2 arg3 harg3 arg4 harg4 arg5 harg5 arg6 harg6 arg7 harg7 arg8 harg8 arg9 harg9 arg10 harg10 arg11 harg11 arg12 harg12 arg13 harg13 X (Wn x2 (ln y)) y (hX y) _ ?_ _ le_rfl).trans (congrArg _ trips1)
  show FloatOps.absf (View.readAt (Elt F) arg10.view (colRect ![0, 0] h) (arg10.view.writes (Elt F) arg10.view.junk L) y) = _
  rw [read_col arg10 _ _ _ 0 rfl (by omega) y, hL]

end Cert.KernelIdeal.Hand
end
-- ==== Proof.Hand.Upd.lean ====
module

public import proofs.«01_k».proof.Proof.Hand.Parts
public import Idealize.ShloMosaic.Lib.ValueIdxCore
public import Idealize.ShloMosaic.Lib.Pipeline.Value

@[expose] public section

set_option maxRecDepth 8192
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## One column recursion, lane by lane -/

variable (arg3 : Memref sig .tc .vmem S128x4096 .f32) (arg4 : Memref sig .tc .vmem S1x3968x1024 .f32)
  (arg8 : Memref sig .tc .vmem S2x3968x256 .bf16) (arg9 : Memref sig .tc .vmem S2x3x128x1024 .bf16)

/-! ## The triangle's rest, split into parts once -/

/-- Entry `c` of row `m` of the split rest of the triangle: in both halves the leading parts first, then the middle parts in half
    zero and the last parts in half one. -/
def US (x3 : S128x4096.Idx → F .f32) (p m c : ℕ) : F .bf16 :=
  prt (if c < 128 then 0 else if p = 0 then 1 else 2) (x3 (ix2 ⟨c % 128, Nat.mod_lt _ (by norm_num)⟩ ⟨(128 + m) % 4096, Nat.mod_lt _ (by norm_num)⟩))

theorem b3 (s : ℕ) : ∀ a, (![0, 128 * (s % 31 + 1)] : Fin 2 → ℕ) a + S128x128.size a ≤ S128x4096.size a := by
  have := Nat.mod_lt s (show 31 > 0 by norm_num); intro a; match a with
  | ⟨0, _⟩ => exact (show 0 + 128 ≤ 128 by omega)
  | ⟨1, _⟩ => exact (show 128 * (s % 31 + 1) + 128 ≤ 4096 by omega)
theorem b8 (s p h : ℕ) : ∀ a, (![p % 2, 128 * (s % 31), 128 * (h % 2)] : Fin 3 → ℕ) a + S1x128x128.size a ≤ S2x3968x256.size a := by
  have := Nat.mod_lt s (show 31 > 0 by norm_num); have := Nat.mod_lt p (show 2 > 0 by norm_num); have := Nat.mod_lt h (show 2 > 0 by norm_num); intro a; match a with
  | ⟨0, _⟩ => exact (show p % 2 + 1 ≤ 2 by omega)
  | ⟨1, _⟩ => exact (show 128 * (s % 31) + 128 ≤ 3968 by omega)
  | ⟨2, _⟩ => exact (show 128 * (h % 2) + 128 ≤ 256 by omega)

/-- Block `s` of the rest of the triangle. -/
def blk3 (X3 : BufTy.Contents (Elt F) arg3.view.ty) (s : ℕ) : Vec F S128x128 .f32 :=
  View.readAt (Elt F) arg3.view (Rect.unit (s := S128x4096) ![0, 128 * (s % 31 + 1)] S128x128.size (b3 s)).toLoadRect X3

/-- A store of one part of a block. -/
def pc8 (s p h : ℕ) (w : Vec F S1x128x128 .bf16) : View.Piece (Elt F) S2x3968x256 .bf16 :=
  ⟨Rect.unit (s := S2x3968x256) ![p % 2, 128 * (s % 31), 128 * (h % 2)] S1x128x128.size (b8 s p h), w⟩

/-- The stores of the first `n` blocks, the last store first. -/
def L8 (X3 : BufTy.Contents (Elt F) arg3.view.ty) : ℕ → List (View.Piece (Elt F) S2x3968x256 .bf16)
  | 0 => []
  | n + 1 => pc8 n 1 1 (k0_pay9 (blk3 arg3 X3 n)) :: pc8 n 1 0 (k0_pay8 (blk3 arg3 X3 n)) :: pc8 n 0 1 (k0_pay7 (blk3 arg3 X3 n)) :: pc8 n 0 0 (k0_pay6 (blk3 arg3 X3 n)) :: L8 X3 n

theorem pay6_apply (v : Vec F S128x128 .f32) (x : S1x128x128.Idx) : k0_pay6 v x = prt 0 (v (ix2 (x 2) (x 1))) := by
  have h0 : (x 0).val = 0 := by have : (x 0).val < 1 := (x 0).isLt; omega
  unfold k0_pay6
  refine (shapeCast_apply _ _ x (ix2 (x 1) (x 2)) ?_).trans ?_
  · rw [Shape.rowMajor_val_three, Shape.rowMajor_val_two]; simp [h0]
  · have e : k0_pay2 v (ix2 (x 1) (x 2)) = v (ix2 (x 2) (x 1)) := by
      unfold k0_pay2
      refine transpose_apply _ v _ _ (ix2 (x 2) (x 1)) fun b => ?_
      match b with
      | ⟨0, _⟩ => rfl
      | ⟨1, _⟩ => rfl
    rw [← e]; rfl
theorem pay7_apply (v : Vec F S128x128 .f32) (x : S1x128x128.Idx) : k0_pay7 v x = prt 1 (v (ix2 (x 2) (x 1))) := by
  have h0 : (x 0).val = 0 := by have : (x 0).val < 1 := (x 0).isLt; omega
  unfold k0_pay7
  refine (shapeCast_apply _ _ x (ix2 (x 1) (x 2)) ?_).trans ?_
  · rw [Shape.rowMajor_val_three, Shape.rowMajor_val_two]; simp [h0]
  · have e : k0_pay2 v (ix2 (x 1) (x 2)) = v (ix2 (x 2) (x 1)) := by
      unfold k0_pay2
      refine transpose_apply _ v _ _ (ix2 (x 2) (x 1)) fun b => ?_
      match b with
      | ⟨0, _⟩ => rfl
      | ⟨1, _⟩ => rfl
    rw [← e]; rfl
theorem pay9_apply (v : Vec F S128x128 .f32) (x : S1x128x128.Idx) : k0_pay9 v x = prt 2 (v (ix2 (x 2) (x 1))) := by
  have h0 : (x 0).val = 0 := by have : (x 0).val < 1 := (x 0).isLt; omega
  unfold k0_pay9
  refine (shapeCast_apply _ _ x (ix2 (x 1) (x 2)) ?_).trans ?_
  · rw [Shape.rowMajor_val_three, Shape.rowMajor_val_two]; simp [h0]
  · have e : k0_pay2 v (ix2 (x 1) (x 2)) = v (ix2 (x 2) (x 1)) := by
      unfold k0_pay2
      refine transpose_apply _ v _ _ (ix2 (x 2) (x 1)) fun b => ?_
      match b with
      | ⟨0, _⟩ => rfl
      | ⟨1, _⟩ => rfl
    rw [← e]; rfl

/-- One of the four stores of a block holds what the split rest of the triangle has there. -/
theorem pc8_val (X3 : BufTy.Contents (Elt F) arg3.view.ty) (s p h : ℕ) (hs : s < 31) (hp : p < 2) (hh : h < 2) (w : Vec F S1x128x128 .bf16)
    (hw : ∀ x, w x = prt (if h = 0 then 0 else if p = 0 then 1 else 2) (blk3 arg3 X3 s (ix2 (x 2) (x 1)))) (x : S1x128x128.Idx) :
    w x = US (View.read (Elt F) arg3.view X3) ((pc8 (F := F) s p h w).1.emb x 0).val ((pc8 (F := F) s p h w).1.emb x 1).val ((pc8 (F := F) s p h w).1.emb x 2).val := by
  have hx0 : (x 0).val < 1 := (x 0).isLt
  have hx1 : (x 1).val < 128 := (x 1).isLt
  have hx2 : (x 2).val < 128 := (x 2).isLt
  have e0 : ((pc8 (F := F) s p h w).1.emb x 0).val = p := by show p % 2 + 1 * (x 0).val = p; omega
  have e1 : ((pc8 (F := F) s p h w).1.emb x 1).val = 128 * s + (x 1).val := by show 128 * (s % 31) + 1 * (x 1).val = _; omega
  have e2 : ((pc8 (F := F) s p h w).1.emb x 2).val = 128 * h + (x 2).val := by show 128 * (h % 2) + 1 * (x 2).val = _; omega
  rw [hw, e0, e1, e2]
  unfold US
  have ec : (if 128 * h + (x 2).val < 128 then 0 else if p = 0 then 1 else 2) = (if h = 0 then 0 else if p = 0 then 1 else 2) := by
    by_cases h0 : h = 0
    · rw [if_pos h0, if_pos (by omega)]
    · rw [if_neg h0, if_neg (by omega)]
  rw [ec]
  refine congrArg (prt _) (congrArg (View.read (Elt F) arg3.view X3) (funext fun d => Fin.ext ?_))
  match d with
  | ⟨0, _⟩ => show 0 + 1 * (x 2).val = (128 * h + (x 2).val) % 128; omega
  | ⟨1, _⟩ => show 128 * (s % 31 + 1) + 1 * (x 1).val = (128 + (128 * s + (x 1).val)) % 4096; omega

/-- The split rest of the triangle after the stores of all the blocks. -/
theorem split_out (X3 : BufTy.Contents (Elt F) arg3.view.ty) (f8 : BufTy.Contents (Elt F) arg8.view.ty) :
    View.read (Elt F) arg8.view (arg8.view.writes (Elt F) f8 (L8 arg3 X3 31)) = fun z => US (View.read (Elt F) arg3.view X3) (z 0).val (z 1).val (z 2).val := by
  funext z
  have hz0 : (z 0).val < 2 := (z 0).isLt
  have hz1 : (z 1).val < 3968 := (z 1).isLt
  have hz2 : (z 2).val < 256 := (z 2).isLt
  have key : ∀ n, n ≤ 31 → (∀ p ∈ L8 arg3 X3 n, ∀ x : p.1.shape.Idx, p.2 x = US (View.read (Elt F) arg3.view X3) (p.1.emb x 0).val (p.1.emb x 1).val (p.1.emb x 2).val)
      ∧ ((z 1).val < 128 * n → ∃ p ∈ L8 arg3 X3 n, z ∈ p.1.set) := by
    intro n
    induction n with
    | zero => intro _; exact ⟨fun p hp => absurd hp List.not_mem_nil, fun h => by omega⟩
    | succ n ih =>
      intro hn
      obtain ⟨ih1, ih2⟩ := ih (by omega)
      refine ⟨?_, fun h => ?_⟩
      · unfold L8
        refine List.forall_mem_cons.2 ⟨pc8_val arg3 X3 n 1 1 (by omega) (by omega) (by omega) _ (pay9_apply _), List.forall_mem_cons.2 ⟨pc8_val arg3 X3 n 1 0 (by omega) (by omega) (by omega) _ (pay6_apply _),
          List.forall_mem_cons.2 ⟨pc8_val arg3 X3 n 0 1 (by omega) (by omega) (by omega) _ (pay7_apply _), List.forall_mem_cons.2 ⟨pc8_val arg3 X3 n 0 0 (by omega) (by omega) (by omega) _ (pay6_apply _), ih1⟩⟩⟩⟩
      · by_cases hlt : (z 1).val < 128 * n
        · obtain ⟨p, hp, hz⟩ := ih2 hlt
          exact ⟨p, by unfold L8; simp only [List.mem_cons, hp, or_true], hz⟩
        · have hin : ∀ w, z ∈ (pc8 (F := F) n (z 0).val ((z 2).val / 128) w).1.set := fun w => (LoadRect.mem_set _).2 fun d => by
            match d with
            | ⟨0, _⟩ => exact ⟨0, Nat.one_pos, by show (z 0).val = (z 0).val % 2 + 1 * 0; omega⟩
            | ⟨1, _⟩ => exact ⟨(z 1).val - 128 * n, by show _ < 128; omega, by show (z 1).val = 128 * (n % 31) + 1 * ((z 1).val - 128 * n); omega⟩
            | ⟨2, _⟩ => exact ⟨(z 2).val % 128, Nat.mod_lt _ (by norm_num), by show (z 2).val = 128 * ((z 2).val / 128 % 2) + 1 * ((z 2).val % 128); omega⟩
          have hc0 : (z 0).val = 0 ∨ (z 0).val = 1 := by omega
          have hc2 : (z 2).val / 128 = 0 ∨ (z 2).val / 128 = 1 := by omega
          unfold L8
          rcases hc0 with h0 | h0 <;> rcases hc2 with h2 | h2 <;> rw [h0, h2] at hin
          · exact ⟨_, by simp only [List.mem_cons, true_or, or_true], hin (k0_pay6 (blk3 arg3 X3 n))⟩
          · exact ⟨_, by simp only [List.mem_cons, true_or, or_true], hin (k0_pay7 (blk3 arg3 X3 n))⟩
          · exact ⟨_, by simp only [List.mem_cons, true_or, or_true], hin (k0_pay8 (blk3 arg3 X3 n))⟩
          · exact ⟨_, by simp only [List.mem_cons, true_or], hin (k0_pay9 (blk3 arg3 X3 n))⟩
  obtain ⟨k1, k2⟩ := key 31 le_rfl
  exact View.read_writes_apply_of_pieces arg8.view f8 (fun z => US (View.read (Elt F) arg3.view X3) (z 0).val (z 1).val (z 2).val) _ k1 z (k2 (by omega))

/-! ## The update of the columns to come -/

/-- Which part of the errors stands in block `k` of the right operand. -/
def rq (k : ℕ) : ℕ := if k = 0 then 2 else if k = 2 then 1 else if k = 3 then 1 else 0

/-- The left operand for chunk `a` of rows. -/
def LT (u : ℕ → ℕ → ℕ → F .bf16) (a : ℕ) : FVec F S496x768 .bf16 :=
  fun p => u (if (p 1).val < 256 then 1 else 0) (496 * a + (p 0).val) ((p 1).val % 256)

/-- The right operand for tile `t` of lanes. -/
def RT (e : ℕ → ℕ → F .f32) (t : ℕ) : FVec F S768x256 .bf16 :=
  fun p => prt (rq ((p 0).val / 128)) (e (256 * t + (p 1).val) ((p 0).val % 128))

/-- The update: entry `m` of lane `n` is entry `(m mod 496, n mod 256)` of the product of chunk and tile. -/
def OUT (u : ℕ → ℕ → ℕ → F .bf16) (e : ℕ → ℕ → F .f32) : S1x3968x1024.Idx → F .f32 :=
  fun z => matmul dot_S496x768_S768x256_S496x256_1_0_0_1_n_n none (LT u ((z 1).val / 496)) (RT e ((z 2).val / 256)) (constant S496x256 .f32 0x00000000#32)
    (ix2 ⟨(z 1).val % 496, Nat.mod_lt _ (by norm_num)⟩ ⟨(z 2).val % 256, Nat.mod_lt _ (by norm_num)⟩)

theorem b8r (p a : ℕ) : ∀ d, (![p % 2, 496 * (a % 8), 0] : Fin 3 → ℕ) d + S1x496x256.size d ≤ S2x3968x256.size d := by
  have := Nat.mod_lt a (show 8 > 0 by norm_num); have := Nat.mod_lt p (show 2 > 0 by norm_num); intro d; match d with
  | ⟨0, _⟩ => exact (show p % 2 + 1 ≤ 2 by omega)
  | ⟨1, _⟩ => exact (show 496 * (a % 8) + 496 ≤ 3968 by omega)
  | ⟨2, _⟩ => exact (show 0 + 256 ≤ 256 by omega)
theorem b4 (a t : ℕ) : ∀ d, (![0, 496 * (a % 8), 256 * (t % 4)] : Fin 3 → ℕ) d + S1x496x256.size d ≤ S1x3968x1024.size d := by
  have := Nat.mod_lt a (show 8 > 0 by norm_num); have := Nat.mod_lt t (show 4 > 0 by norm_num); intro d; match d with
  | ⟨0, _⟩ => exact (show 0 + 1 ≤ 1 by omega)
  | ⟨1, _⟩ => exact (show 496 * (a % 8) + 496 ≤ 3968 by omega)
  | ⟨2, _⟩ => exact (show 256 * (t % 4) + 256 ≤ 1024 by omega)

/-- A chunk of half `p` of the split rest. -/
def chk (X8 : BufTy.Contents (Elt F) arg8.view.ty) (p a : ℕ) : Vec F S1x496x256 .bf16 :=
  View.readAt (Elt F) arg8.view (Rect.unit (s := S2x3968x256) ![p % 2, 496 * (a % 8), 0] S1x496x256.size (b8r p a)).toLoadRect X8

/-- The store of the product of chunk `a` and tile `t`. -/
def pc4 (X8 : BufTy.Contents (Elt F) arg8.view.ty) (R : FVec F S768x256 .bf16) (t a : ℕ) : View.Piece (Elt F) S1x3968x1024 .f32 :=
  ⟨Rect.unit (s := S1x3968x1024) ![0, 496 * (a % 8), 256 * (t % 4)] S1x496x256.size (b4 a t), k0_pay317 R (k0_pay300 (chk arg8 X8 0 a) (chk arg8 X8 1 a))⟩

theorem lhs_eq (u : ℕ → ℕ → ℕ → F .bf16) (X8 : BufTy.Contents (Elt F) arg8.view.ty) (hu : View.read (Elt F) arg8.view X8 = fun z => u (z 0).val (z 1).val (z 2).val) (a : ℕ) (ha : a < 8) :
    k0_pay300 (chk arg8 X8 0 a) (chk arg8 X8 1 a) = LT u a := by
  have hv : ∀ p : ℕ, p < 2 → ∀ r : Fin 496, ∀ c : Fin 256, shapeCast S496x256 (chk arg8 X8 p a) shapeCasts_S1x496x256_S496x256 (ix2 r c) = u p (496 * a + r.val) c.val := by
    intro p hp r c
    refine (shapeCast_apply _ _ _ (ix3 0 r c) ?_).trans ?_
    · rw [Shape.rowMajor_val_three, Shape.rowMajor_val_two]; simp
    · show View.read (Elt F) arg8.view X8 _ = _
      rw [hu]
      show u (p % 2 + 1 * 0) (496 * (a % 8) + 1 * r.val) (0 + 1 * c.val) = _
      rw [show p % 2 + 1 * 0 = p by omega, show 496 * (a % 8) + 1 * r.val = 496 * a + r.val by omega, show 0 + 1 * c.val = c.val by omega]
  funext p
  have h1 : (p 1).val < 768 := (p 1).isLt
  unfold k0_pay300 LT
  have hc : (p 1).val / 256 = 0 ∨ (p 1).val / 256 = 1 ∨ (p 1).val / 256 = 2 := by omega
  rcases hc with h | h | h
  · rw [if_pos (by omega), ← hv 1 (by omega) (p 0) ⟨(p 1).val % 256, Nat.mod_lt _ (by norm_num)⟩]
    refine concatenate_apply_piece 1 _ _ p 0 (by simp) S496x256 _ rfl rfl 0 rfl _ (fun b hb => ?_) ?_
    · match b with
      | ⟨0, _⟩ => rfl
      | ⟨1, _⟩ => exact absurd rfl hb
    · show 0 + (p 1).val % 256 = (p 1).val; omega
  · rw [if_neg (by omega), ← hv 0 (by omega) (p 0) ⟨(p 1).val % 256, Nat.mod_lt _ (by norm_num)⟩]
    refine concatenate_apply_piece 1 _ _ p 1 (by simp) S496x256 _ rfl rfl 256 rfl _ (fun b hb => ?_) ?_
    · match b with
      | ⟨0, _⟩ => rfl
      | ⟨1, _⟩ => exact absurd rfl hb
    · show 256 + (p 1).val % 256 = (p 1).val; omega
  · rw [if_neg (by omega), ← hv 0 (by omega) (p 0) ⟨(p 1).val % 256, Nat.mod_lt _ (by norm_num)⟩]
    refine concatenate_apply_piece 1 _ _ p 2 (by simp) S496x256 _ rfl rfl 512 rfl _ (fun b hb => ?_) ?_
    · match b with
      | ⟨0, _⟩ => rfl
      | ⟨1, _⟩ => exact absurd rfl hb
    · show 512 + (p 1).val % 256 = (p 1).val; omega

/-- A tile of part `q` of the kept errors. -/
def til9 (X9 : BufTy.Contents (Elt F) arg9.view.ty) (off : Fin 4 → ℕ) (h : ∀ a, off a + S1x1x128x256.size a ≤ S2x3x128x1024.size a) : Vec F S1x1x128x256 .bf16 :=
  View.readAt (Elt F) arg9.view (Rect.unit (s := S2x3x128x1024) off S1x1x128x256.size h).toLoadRect X9

theorem rhs_eq (e : ℕ → ℕ → F .f32) (X9 : BufTy.Contents (Elt F) arg9.view.ty) (slot : ℕ) (he : Kept (View.read (Elt F) arg9.view X9) slot e) (t : ℕ)
    (o0 o1 o2 : Fin 4 → ℕ) (h0 h1 h2) (e0 : o0 = ![slot, 0, 0, 256 * t]) (e1 : o1 = ![slot, 1, 0, 256 * t]) (e2 : o2 = ![slot, 2, 0, 256 * t]) :
    k0_pay292 (til9 arg9 X9 o0 h0) (til9 arg9 X9 o1 h1) (til9 arg9 X9 o2 h2) = RT e t := by
  have hv : ∀ (q : ℕ) (o : Fin 4 → ℕ) (h : ∀ a, o a + S1x1x128x256.size a ≤ S2x3x128x1024.size a), o = ![slot, q, 0, 256 * t] → ∀ r : Fin 128, ∀ c : Fin 256,
      shapeCast S128x256 (til9 arg9 X9 o h) shapeCasts_S1x1x128x256_S128x256 (ix2 r c) = prt q (e (256 * t + c.val) r.val) := by
    intro q o h ho r c
    subst ho
    refine (shapeCast_apply _ _ _ (ix4 0 0 r c) ?_).trans ?_
    · rw [Shape.rowMajor_val_four, Shape.rowMajor_val_two]; simp
    · show View.read (Elt F) arg9.view X9 _ = _
      refine (he _ (show slot + 1 * 0 = slot by omega)).trans ?_
      show prt (q + 1 * 0) (e (256 * t + 1 * c.val) (0 + 1 * r.val)) = _
      simp only [one_mul, zero_add, Nat.mul_zero, Nat.add_zero]
  funext p
  have hp0 : (p 0).val < 768 := (p 0).isLt
  unfold k0_pay292 RT
  have hc : (p 0).val / 128 = 0 ∨ (p 0).val / 128 = 1 ∨ (p 0).val / 128 = 2 ∨ (p 0).val / 128 = 3 ∨ (p 0).val / 128 = 4 ∨ (p 0).val / 128 = 5 := by omega
  rcases hc with h | h | h | h | h | h <;> rw [h]
  · refine (concatenate_apply_piece 0 _ _ p 0 (by simp) S128x256 _ rfl rfl 0 rfl (ix2 ⟨(p 0).val % 128, Nat.mod_lt _ (by norm_num)⟩ (p 1)) (fun b hb => ?_) ?_).trans (hv 2 o2 h2 e2 _ _)
    · match b with
      | ⟨0, _⟩ => exact absurd rfl hb
      | ⟨1, _⟩ => rfl
    · show 0 + (p 0).val % 128 = (p 0).val; omega
  · refine (concatenate_apply_piece 0 _ _ p 1 (by simp) S128x256 _ rfl rfl 128 rfl (ix2 ⟨(p 0).val % 128, Nat.mod_lt _ (by norm_num)⟩ (p 1)) (fun b hb => ?_) ?_).trans (hv 0 o0 h0 e0 _ _)
    · match b with
      | ⟨0, _⟩ => exact absurd rfl hb
      | ⟨1, _⟩ => rfl
    · show 128 + (p 0).val % 128 = (p 0).val; omega
  · refine (concatenate_apply_piece 0 _ _ p 2 (by simp) S128x256 _ rfl rfl 256 rfl (ix2 ⟨(p 0).val % 128, Nat.mod_lt _ (by norm_num)⟩ (p 1)) (fun b hb => ?_) ?_).trans (hv 1 o1 h1 e1 _ _)
    · match b with
      | ⟨0, _⟩ => exact absurd rfl hb
      | ⟨1, _⟩ => rfl
    · show 256 + (p 0).val % 128 = (p 0).val; omega
  · refine (concatenate_apply_piece 0 _ _ p 3 (by simp) S128x256 _ rfl rfl 384 rfl (ix2 ⟨(p 0).val % 128, Nat.mod_lt _ (by norm_num)⟩ (p 1)) (fun b hb => ?_) ?_).trans (hv 1 o1 h1 e1 _ _)
    · match b with
      | ⟨0, _⟩ => exact absurd rfl hb
      | ⟨1, _⟩ => rfl
    · show 384 + (p 0).val % 128 = (p 0).val; omega
  · refine (concatenate_apply_piece 0 _ _ p 4 (by simp) S128x256 _ rfl rfl 512 rfl (ix2 ⟨(p 0).val % 128, Nat.mod_lt _ (by norm_num)⟩ (p 1)) (fun b hb => ?_) ?_).trans (hv 0 o0 h0 e0 _ _)
    · match b with
      | ⟨0, _⟩ => exact absurd rfl hb
      | ⟨1, _⟩ => rfl
    · show 512 + (p 0).val % 128 = (p 0).val; omega
  · refine (concatenate_apply_piece 0 _ _ p 5 (by simp) S128x256 _ rfl rfl 640 rfl (ix2 ⟨(p 0).val % 128, Nat.mod_lt _ (by norm_num)⟩ (p 1)) (fun b hb => ?_) ?_).trans (hv 0 o0 h0 e0 _ _)
    · match b with
      | ⟨0, _⟩ => exact absurd rfl hb
      | ⟨1, _⟩ => rfl
    · show 640 + (p 0).val % 128 = (p 0).val; omega

/-- The eight stores of one tile, the last first, before the stores `L`. -/
def t4 (X8 : BufTy.Contents (Elt F) arg8.view.ty) (R : FVec F S768x256 .bf16) (t : ℕ) (L : List (View.Piece (Elt F) S1x3968x1024 .f32)) : List (View.Piece (Elt F) S1x3968x1024 .f32) :=
  pc4 arg8 X8 R t 7 :: pc4 arg8 X8 R t 6 :: pc4 arg8 X8 R t 5 :: pc4 arg8 X8 R t 4 :: pc4 arg8 X8 R t 3 :: pc4 arg8 X8 R t 2 :: pc4 arg8 X8 R t 1 :: pc4 arg8 X8 R t 0 :: L

/-- Whether every piece of a list is a piece of the update, with the tiles below `t` covered. -/
def Good4 (u : ℕ → ℕ → ℕ → F .bf16) (e : ℕ → ℕ → F .f32) (t : ℕ) (L : List (View.Piece (Elt F) S1x3968x1024 .f32)) : Prop :=
  (∀ p ∈ L, ∀ x : p.1.shape.Idx, p.2 x = OUT u e (p.1.emb x)) ∧ ∀ z : S1x3968x1024.Idx, (z 2).val < 256 * t → ∃ p ∈ L, z ∈ p.1.set

theorem pc4_val (u : ℕ → ℕ → ℕ → F .bf16) (e : ℕ → ℕ → F .f32) (X8 : BufTy.Contents (Elt F) arg8.view.ty) (hu : View.read (Elt F) arg8.view X8 = fun z => u (z 0).val (z 1).val (z 2).val)
    (t a : ℕ) (ht : t < 4) (ha : a < 8) (x : S1x496x256.Idx) :
    (pc4 arg8 X8 (RT e t) t a).2 x = OUT u e ((pc4 arg8 X8 (RT e t) t a).1.emb x) := by
  have hx0 : (x 0).val < 1 := (x 0).isLt
  have hx1 : (x 1).val < 496 := (x 1).isLt
  have hx2 : (x 2).val < 256 := (x 2).isLt
  have e1 : ((pc4 arg8 X8 (RT e t) t a).1.emb x 1).val = 496 * a + (x 1).val := by show 496 * (a % 8) + 1 * (x 1).val = _; omega
  have e2 : ((pc4 arg8 X8 (RT e t) t a).1.emb x 2).val = 256 * t + (x 2).val := by show 256 * (t % 4) + 1 * (x 2).val = _; omega
  show k0_pay317 (RT e t) (k0_pay300 (chk arg8 X8 0 a) (chk arg8 X8 1 a)) x = _
  rw [lhs_eq arg8 u X8 hu a ha]
  unfold k0_pay317 OUT
  refine (shapeCast_apply _ _ x (ix2 (x 1) (x 2)) ?_).trans ?_
  · have h0 : (x 0).val = 0 := by omega
    rw [Shape.rowMajor_val_three, Shape.rowMajor_val_two]; simp [h0]
  · rw [show ((pc4 arg8 X8 (RT e t) t a).1.emb x 1).val / 496 = a by omega, show ((pc4 arg8 X8 (RT e t) t a).1.emb x 2).val / 256 = t by omega]
    refine congrArg _ (funext fun d => Fin.ext ?_)
    match d with
    | ⟨0, _⟩ => show (x 1).val = ((pc4 arg8 X8 (RT e t) t a).1.emb x 1).val % 496; omega
    | ⟨1, _⟩ => show (x 2).val = ((pc4 arg8 X8 (RT e t) t a).1.emb x 2).val % 256; omega

/-- One more tile of products keeps the pieces good. -/
theorem good_t4 (u : ℕ → ℕ → ℕ → F .bf16) (e : ℕ → ℕ → F .f32) (X8 : BufTy.Contents (Elt F) arg8.view.ty) (hu : View.read (Elt F) arg8.view X8 = fun z => u (z 0).val (z 1).val (z 2).val)
    (t : ℕ) (ht : t < 4) (L) (hL : Good4 u e t L) : Good4 u e (t + 1) (t4 arg8 X8 (RT e t) t L) := by
  obtain ⟨hL1, hL2⟩ := hL
  have pv := pc4_val arg8 u e X8 hu t
  refine ⟨?_, fun z hz => ?_⟩
  · unfold t4
    refine List.forall_mem_cons.2 ⟨pv 7 ht (by omega), List.forall_mem_cons.2 ⟨pv 6 ht (by omega), List.forall_mem_cons.2 ⟨pv 5 ht (by omega), List.forall_mem_cons.2 ⟨pv 4 ht (by omega),
      List.forall_mem_cons.2 ⟨pv 3 ht (by omega), List.forall_mem_cons.2 ⟨pv 2 ht (by omega), List.forall_mem_cons.2 ⟨pv 1 ht (by omega), List.forall_mem_cons.2 ⟨pv 0 ht (by omega), hL1⟩⟩⟩⟩⟩⟩⟩⟩
  · by_cases hlt : (z 2).val < 256 * t
    · obtain ⟨p, hp, hz⟩ := hL2 z hlt
      exact ⟨p, by unfold t4; simp only [List.mem_cons, hp, or_true], hz⟩
    · have hz0 : (z 0).val < 1 := (z 0).isLt
      have hz1 : (z 1).val < 3968 := (z 1).isLt
      refine ⟨pc4 arg8 X8 (RT e t) t ((z 1).val / 496), ?_, (LoadRect.mem_set _).2 fun d => ?_⟩
      · have hc : (z 1).val / 496 = 0 ∨ (z 1).val / 496 = 1 ∨ (z 1).val / 496 = 2 ∨ (z 1).val / 496 = 3 ∨ (z 1).val / 496 = 4 ∨ (z 1).val / 496 = 5 ∨ (z 1).val / 496 = 6 ∨ (z 1).val / 496 = 7 := by omega
        unfold t4
        rcases hc with h | h | h | h | h | h | h | h <;> rw [h] <;> simp only [List.mem_cons, true_or, or_true]
      · match d with
        | ⟨0, _⟩ => exact ⟨0, Nat.one_pos, by show (z 0).val = 0 + 1 * 0; omega⟩
        | ⟨1, _⟩ => exact ⟨(z 1).val % 496, Nat.mod_lt _ (by norm_num), by show (z 1).val = 496 * ((z 1).val / 496 % 8) + 1 * ((z 1).val % 496); omega⟩
        | ⟨2, _⟩ => exact ⟨(z 2).val - 256 * t, by show _ < 256; omega, by show (z 2).val = 256 * (t % 4) + 1 * ((z 2).val - 256 * t); omega⟩

/-- The update after the stores of all chunks and tiles. -/
theorem upd_out (u : ℕ → ℕ → ℕ → F .bf16) (e : ℕ → ℕ → F .f32) (X8 : BufTy.Contents (Elt F) arg8.view.ty) (hu : View.read (Elt F) arg8.view X8 = fun z => u (z 0).val (z 1).val (z 2).val)
    (R0 R1 R2 R3 : FVec F S768x256 .bf16) (h0 : R0 = RT e 0) (h1 : R1 = RT e 1) (h2 : R2 = RT e 2) (h3 : R3 = RT e 3) (f4 : BufTy.Contents (Elt F) arg4.view.ty) :
    View.read (Elt F) arg4.view (arg4.view.writes (Elt F) f4 (t4 arg8 X8 R3 3 (t4 arg8 X8 R2 2 (t4 arg8 X8 R1 1 (t4 arg8 X8 R0 0 []))))) = OUT u e := by
  subst h0 h1 h2 h3
  have g0 : Good4 u e 0 ([] : List (View.Piece (Elt F) S1x3968x1024 .f32)) := ⟨fun p hp => absurd hp List.not_mem_nil, fun z hz => by omega⟩
  have g := good_t4 arg8 u e X8 hu 3 (by omega) _ (good_t4 arg8 u e X8 hu 2 (by omega) _ (good_t4 arg8 u e X8 hu 1 (by omega) _ (good_t4 arg8 u e X8 hu 0 (by omega) _ g0)))
  funext z
  have hz2 : (z 2).val < 1024 := (z 2).isLt
  exact View.read_writes_apply_of_pieces arg4.view f4 (OUT u e) _ g.1 z (g.2 z (by omega))

end Cert.KernelIdeal.Hand
end
-- ==== Proof.Hand.Body.lean ====
module

public import proofs.«01_k».proof.Proof.Gen.KernelIdeal.Frame
public import proofs.«01_k».proof.Proof.Hand.Amax
public import proofs.«01_k».proof.Proof.Hand.Upd
public import Idealize.ShloMosaic.Lib.LoopRemainder

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords) (arg1 : Memref sig .tc .smem S128x128 .f32) (harg1 : arg1.IsWhole) (arg2 : Memref sig .tc .vmem S1x128x1024 .f32) (harg2 : arg2.IsWhole) (arg3 : Memref sig .tc .vmem S128x4096 .f32) (harg3 : arg3.IsWhole) (arg4 : Memref sig .tc .vmem S1x3968x1024 .f32) (harg4 : arg4.IsWhole) (arg5 : Memref sig .tc .vmem S1x128x1024 .f32) (harg5 : arg5.IsWhole) (arg6 : Memref sig .tc .vmem S1x64x1024 .i8) (harg6 : arg6.IsWhole) (arg7 : Memref sig .tc .vmem S1x1x1024 .f32) (harg7 : arg7.IsWhole) (arg8 : Memref sig .tc .vmem S2x3968x256 .bf16) (harg8 : arg8.IsWhole) (arg9 : Memref sig .tc .vmem S2x3x128x1024 .bf16) (harg9 : arg9.IsWhole) (arg10 : Memref sig .tc .vmem S1088x128 .f32) (harg10 : arg10.IsWhole) (arg11 : Memref sig .tc .vmem S1088x128 .f32) (harg11 : arg11.IsWhole) (arg12 : Memref sig .tc .vmem S128x8x128 .f32) (harg12 : arg12.IsWhole) (arg13 : Memref sig .tc .vmem S576x128 .i32) (harg13 : arg13.IsWhole)

/-! ## The contents of the scratch after the columns, and the values read from it -/

/-- The stores of the columns into their scratch. -/
abbrev ST10 (f2 : BufTy.Contents (Elt F) arg2.view.ty) : List (View.Piece (Elt F) S1088x128 .f32) :=
  [pc10 arg2 f2 7, pc10 arg2 f2 6, pc10 arg2 f2 5, pc10 arg2 f2 4, pc10 arg2 f2 3, pc10 arg2 f2 2, pc10 arg2 f2 1, pc10 arg2 f2 0]

/-- The largest absolute values, lane by lane. -/
abbrev SA (f2 : BufTy.Contents (Elt F) arg2.view.ty) (f10 : BufTy.Contents (Elt F) arg10.view.ty) (h : ∀ a, S8x128.size a = 0 ∨ (![0, 0] : Fin 2 → ℕ) a + (![136, 1] : Fin 2 → Nat) a * (S8x128.size a - 1) < S1088x128.size a) : FVec F S8x128 .f32 :=
  st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 (arg10.view.writes (Elt F) f10 (ST10 arg2 f2))
    (k0_pay326 (arg10.view.readCov (ST10 arg2 f2) (colRect ![0, 0] h))) (Scf.trips k0_t1_loop.lb k0_t1_loop.ub k0_t1_loop.st)

/-- The scales, lane by lane. -/
abbrev SV (f2 : BufTy.Contents (Elt F) arg2.view.ty) (f10 : BufTy.Contents (Elt F) arg10.view.ty) (h : ∀ a, S8x128.size a = 0 ∨ (![0, 0] : Fin 2 → ℕ) a + (![136, 1] : Fin 2 → Nat) a * (S8x128.size a - 1) < S1088x128.size a) : FVec F S8x128 .f32 :=
  select (k0_pay328 (SA 𝒱 c bd i arg1 harg1 arg2 harg2 arg3 harg3 arg4 harg4 arg5 harg5 arg6 harg6 arg7 harg7 arg8 harg8 arg9 harg9 arg10 harg10 arg11 harg11 arg12 harg12 arg13 harg13 f2 f10 h)) (broadcast S8x128 (Scalar.ofBits .f32 1065353216#32)) (k0_pay329 (SA 𝒱 c bd i arg1 harg1 arg2 harg2 arg3 harg3 arg4 harg4 arg5 harg5 arg6 harg6 arg7 harg7 arg8 harg8 arg9 harg9 arg10 harg10 arg11 harg11 arg12 harg12 arg13 harg13 f2 f10 h))

theorem SV_eq (f2 : BufTy.Contents (Elt F) arg2.view.ty) (f10 : BufTy.Contents (Elt F) arg10.view.ty) (h : ∀ a, S8x128.size a = 0 ∨ (![0, 0] : Fin 2 → ℕ) a + (![136, 1] : Fin 2 → Nat) a * (S8x128.size a - 1) < S1088x128.size a) (y : S8x128.Idx) :
    SV 𝒱 c bd i arg1 harg1 arg2 harg2 arg3 harg3 arg4 harg4 arg5 harg5 arg6 harg6 arg7 harg7 arg8 harg8 arg9 harg9 arg10 harg10 arg11 harg11 arg12 harg12 arg13 harg13 f2 f10 h y = sc (Wn (View.read (Elt F) arg2.view f2) (ln y)) :=
  scale_all 𝒱 c bd i arg1 harg1 arg2 harg2 arg3 harg3 arg4 harg4 arg5 harg5 arg6 harg6 arg7 harg7 arg8 harg8 arg9 harg9 arg10 harg10 arg11 harg11 arg12 harg12 arg13 harg13 (View.read (Elt F) arg2.view f2) _ (fun y j hj => cols_in arg2 arg10 f2 f10 y j hj) _ h
    (fun y => cols_in arg2 arg10 f2 arg10.view.junk y 0 (by omega)) y

/-- The state after all the columns. -/
abbrev SQ (f1 : BufTy.Contents (Elt F) arg1.view.ty) (f2 : BufTy.Contents (Elt F) arg2.view.ty) (f10 : BufTy.Contents (Elt F) arg10.view.ty) (f11 : BufTy.Contents (Elt F) arg11.view.ty)
    (f12 : BufTy.Contents (Elt F) arg12.view.ty) (f13 : BufTy.Contents (Elt F) arg13.view.ty) (h : ∀ a, S8x128.size a = 0 ∨ (![0, 0] : Fin 2 → ℕ) a + (![136, 1] : Fin 2 → Nat) a * (S8x128.size a - 1) < S1088x128.size a) : QS arg10 arg11 arg12 arg13 F :=
  iter k0_t2_loop.trips (step2 arg1 arg10 arg11 arg12 arg13 (SV 𝒱 c bd i arg1 harg1 arg2 harg2 arg3 harg3 arg4 harg4 arg5 harg5 arg6 harg6 arg7 harg7 arg8 harg8 arg9 harg9 arg10 harg10 arg11 harg11 arg12 harg12 arg13 harg13 f2 f10 h) f1)
    { w := arg10.view.writes (Elt F) f10 (ST10 arg2 f2), e := f11, ecol := f12, code := f13 } (Scf.trips k0_t2_loop.lb k0_t2_loop.ub k0_t2_loop.st)

/-- The scratch of errors after all the columns. -/
abbrev SE (f1 : BufTy.Contents (Elt F) arg1.view.ty) (f2 : BufTy.Contents (Elt F) arg2.view.ty) (f10 : BufTy.Contents (Elt F) arg10.view.ty) (f11 : BufTy.Contents (Elt F) arg11.view.ty)
    (f12 : BufTy.Contents (Elt F) arg12.view.ty) (f13 : BufTy.Contents (Elt F) arg13.view.ty) (h : ∀ a, S8x128.size a = 0 ∨ (![0, 0] : Fin 2 → ℕ) a + (![136, 1] : Fin 2 → Nat) a * (S8x128.size a - 1) < S1088x128.size a) : BufTy.Contents (Elt F) arg11.view.ty :=
  atTrip0 (Scf.trips k0_t2_loop.lb k0_t2_loop.ub k0_t2_loop.st) f11 (SQ 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 h).e

/-- The scratch of packed codes after all the columns. -/
abbrev SC (f1 : BufTy.Contents (Elt F) arg1.view.ty) (f2 : BufTy.Contents (Elt F) arg2.view.ty) (f10 : BufTy.Contents (Elt F) arg10.view.ty) (f11 : BufTy.Contents (Elt F) arg11.view.ty)
    (f12 : BufTy.Contents (Elt F) arg12.view.ty) (f13 : BufTy.Contents (Elt F) arg13.view.ty) (h : ∀ a, S8x128.size a = 0 ∨ (![0, 0] : Fin 2 → ℕ) a + (![136, 1] : Fin 2 → Nat) a * (S8x128.size a - 1) < S1088x128.size a) : BufTy.Contents (Elt F) arg13.view.ty :=
  atTrip0 (Scf.trips k0_t2_loop.lb k0_t2_loop.ub k0_t2_loop.st) f13 (SQ 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 h).code

variable (f1 : BufTy.Contents (Elt F) arg1.view.ty) (f2 : BufTy.Contents (Elt F) arg2.view.ty) (f10 : BufTy.Contents (Elt F) arg10.view.ty) (f11 : BufTy.Contents (Elt F) arg11.view.ty)
    (f12 : BufTy.Contents (Elt F) arg12.view.ty) (f13 : BufTy.Contents (Elt F) arg13.view.ty)

theorem SE_eq (h : ∀ a, S8x128.size a = 0 ∨ (![0, 0] : Fin 2 → ℕ) a + (![136, 1] : Fin 2 → Nat) a * (S8x128.size a - 1) < S1088x128.size a) (y : S8x128.Idx) (j : ℕ) (hj : j < 128) :
    wv arg11 (SE 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 h) j y = EN (View.read (Elt F) arg1.view f1) (View.read (Elt F) arg2.view f2) (ln y) j := by
  unfold SE
  rw [atTrip0_eq QS.e _ _ _ f11 rfl]
  exact (quant_all arg1 arg10 arg11 arg12 arg13 f1 (View.read (Elt F) arg2.view f2) _ (fun y j hj => cols_in arg2 arg10 f2 f10 y j hj) _ (SV_eq 𝒱 c bd i arg1 harg1 arg2 harg2 arg3 harg3 arg4 harg4 arg5 harg5 arg6 harg6 arg7 harg7 arg8 harg8 arg9 harg9 arg10 harg10 arg11 harg11 arg12 harg12 arg13 harg13 f2 f10 h) f11 f12 f13).1 y j hj

theorem SC_eq (h : ∀ a, S8x128.size a = 0 ∨ (![0, 0] : Fin 2 → ℕ) a + (![136, 1] : Fin 2 → Nat) a * (S8x128.size a - 1) < S1088x128.size a) (y : S8x128.Idx) (q : ℕ) (hq : q < 64) :
    qv arg13 (SC 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 h) q y
      = pk (CN (View.read (Elt F) arg1.view f1) (View.read (Elt F) arg2.view f2) (ln y) (2 * q)) (CN (View.read (Elt F) arg1.view f1) (View.read (Elt F) arg2.view f2) (ln y) (2 * q + 1)) := by
  unfold SC
  rw [atTrip0_eq QS.code _ _ _ f13 rfl]
  exact (quant_all arg1 arg10 arg11 arg12 arg13 f1 (View.read (Elt F) arg2.view f2) _ (fun y j hj => cols_in arg2 arg10 f2 f10 y j hj) _ (SV_eq 𝒱 c bd i arg1 harg1 arg2 harg2 arg3 harg3 arg4 harg4 arg5 harg5 arg6 harg6 arg7 harg7 arg8 harg8 arg9 harg9 arg10 harg10 arg11 harg11 arg12 harg12 arg13 harg13 f2 f10 h) f11 f12 f13).2 y q hq

/-- The body at a later point: the update of the group before from the kept errors, and the group at hand quantised. -/
theorem sound_next (h1 : ¬ Scalar.cmpi .ne (Scalar.extui (Scalar.cmpi .eq (BitVec.ofNat 32 (i 0).val) 0#32) : BitVec 32) 0#32 = 1#1) (h2 : k0_cond2 i = 1#1)
    (x1 : Vec F S128x128 .f32) (x2 : Vec F S1x128x1024 .f32) (x3 : Vec F S128x4096 .f32) (u : ℕ → ℕ → ℕ → F .bf16) (e : ℕ → ℕ → F .f32) (E : Set ℕ) (K : PUnit → sProp 𝕄G) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (fun z => u (z 0).val (z 1).val (z 2).val) ∗ (∃ d, ⌜Kept d (1 - (i 0).val % 2) e⌝ ∗ owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare (OUT u e) ∗ owns (c : Thread nD τ) arg5 fullShare (EOUT x1 x2) ∗ owns (c : Thread nD τ) arg6 fullShare (COUT x1 x2) ∗ owns (c : Thread nD τ) arg7 fullShare (SOUT x2) ∗ owns (c : Thread nD τ) arg8 fullShare (fun z => u (z 0).val (z 1).val (z 2).val) ∗ (∃ d, ⌜Kept d ((i 0).val % 2) (EN x1 x2)⌝ ∗ owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) 𝒱 c bd) E (cc0_gptq_block i arg1 harg1 arg2 harg2 arg3 harg3 arg4 harg4 arg5 harg5 arg6 harg6 arg7 harg7 arg8 harg8 arg9 harg9 arg10 harg10 arg11 harg11 arg12 harg12 arg13 harg13) K := by
  · simp only [cc0_gptq_block_eq_skeleton]; unfold cc0_gptq_block_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%d9, %hd9, %f9, %hf9, H9⟩, ⟨%d10, %f10, -, H10⟩, ⟨%d11, %f11, -, H11⟩, ⟨%d12, %f12, -, H12⟩, ⟨%d13, %f13, -, H13⟩, Hk⟩
    subst hf9
    subst hf1 hf2 hf3
    sl_exec (disch := first | sl_exact h1 | sl_exact h2)
    sl_step
    iapply Hk
    isplitl [H1]; · (iexists _; isplitr; swap; iexact H1; ipureintro; rfl)
    isplitl [H2]; · (iexists _; isplitr; swap; iexact H2; ipureintro; rfl)
    isplitl [H3]; · (iexists _; isplitr; swap; iexact H3; ipureintro; rfl)
    isplitl [H4]; · (iexists _; isplitr; swap; iexact H4; ipureintro; sl_unfold_run_names; exact upd_out arg4 arg8 u e f8 hf8 _ _ _ _ (rhs_eq arg9 e f9 (1 - (i 0).val % 2) hd9 0 _ _ _ (k0_off1_inb i h2) (k0_off2_inb i h2) (k0_off3_inb i h2) (k0_off1_eq i) (k0_off2_eq i) (k0_off3_eq i)) (rhs_eq arg9 e f9 (1 - (i 0).val % 2) hd9 1 _ _ _ (k0_off4_inb i h2) (k0_off5_inb i h2) (k0_off6_inb i h2) (k0_off4_eq i) (k0_off5_eq i) (k0_off6_eq i)) (rhs_eq arg9 e f9 (1 - (i 0).val % 2) hd9 2 _ _ _ (k0_off7_inb i h2) (k0_off8_inb i h2) (k0_off9_inb i h2) (k0_off7_eq i) (k0_off8_eq i) (k0_off9_eq i)) (rhs_eq arg9 e f9 (1 - (i 0).val % 2) hd9 3 _ _ _ (k0_off10_inb i h2) (k0_off11_inb i h2) (k0_off12_inb i h2) (k0_off10_eq i) (k0_off11_eq i) (k0_off12_eq i)) _)
    isplitl [H5]; · (iexists _; isplitr; swap; iexact H5; ipureintro; sl_unfold_run_names; exact errs_out arg5 arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) f5)
    isplitl [H6]; · (iexists _; isplitr; swap; iexact H6; ipureintro; sl_unfold_run_names; exact codes_out arg6 arg13 (fun n q => pk (CN (View.read (Elt F) arg1.view f1) (View.read (Elt F) arg2.view f2) n (2 * q)) (CN (View.read (Elt F) arg1.view f1) (View.read (Elt F) arg2.view f2) n (2 * q + 1))) _ (SC_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) f6)
    isplitl [H7]; · (iexists _; isplitr; swap; iexact H7; ipureintro; sl_unfold_run_names; exact scales_out arg7 _ _ (SV_eq 𝒱 c bd i arg1 harg1 arg2 harg2 arg3 harg3 arg4 harg4 arg5 harg5 arg6 harg6 arg7 harg7 arg8 harg8 arg9 harg9 arg10 harg10 arg11 harg11 arg12 harg12 arg13 harg13 f2 f10 _) _ _ _ _ _ _ _ _ _)
    isplitl [H8]; · (iexists _; isplitr; swap; iexact H8; ipureintro; exact hf8)
    isplitl [H9]
    · iexists _
      isplitr
      swap
      · (iexists _; isplitr; swap; iexact H9; ipureintro; rfl)
      · ipureintro
        sl_unfold_run_names
        exact kept_out arg9 _ _ _ _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 7 _ _ _ (k0_off56_inb i) (k0_off57_inb i) (k0_off58_inb i) (k0_off56_eq i) (k0_off57_eq i) (k0_off58_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 6 _ _ _ (k0_off53_inb i) (k0_off54_inb i) (k0_off55_inb i) (k0_off53_eq i) (k0_off54_eq i) (k0_off55_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 5 _ _ _ (k0_off50_inb i) (k0_off51_inb i) (k0_off52_inb i) (k0_off50_eq i) (k0_off51_eq i) (k0_off52_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 4 _ _ _ (k0_off47_inb i) (k0_off48_inb i) (k0_off49_inb i) (k0_off47_eq i) (k0_off48_eq i) (k0_off49_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 3 _ _ _ (k0_off44_inb i) (k0_off45_inb i) (k0_off46_inb i) (k0_off44_eq i) (k0_off45_eq i) (k0_off46_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 2 _ _ _ (k0_off41_inb i) (k0_off42_inb i) (k0_off43_inb i) (k0_off41_eq i) (k0_off42_eq i) (k0_off43_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 1 _ _ _ (k0_off38_inb i) (k0_off39_inb i) (k0_off40_inb i) (k0_off38_eq i) (k0_off39_eq i) (k0_off40_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 0 _ _ _ (k0_off35_inb i) (k0_off36_inb i) (k0_off37_inb i) (k0_off35_eq i) (k0_off36_eq i) (k0_off37_eq i) _ (good9_nil _ _)))))))))
    isplitl [H10]; · (iexists _, _; isplitr; swap; iexact H10; ipureintro; rfl)
    isplitl [H11]; · (iexists _, _; isplitr; swap; iexact H11; ipureintro; rfl)
    isplitl [H12]; · (iexists _, _; isplitr; swap; iexact H12; ipureintro; rfl)
    (iexists _, _; isplitr; swap; iexact H13; ipureintro; rfl)

/-- The body at the first point: the rest of the triangle split, and the group at hand quantised. -/
theorem sound_first (h1 : Scalar.cmpi .ne (Scalar.extui (Scalar.cmpi .eq (BitVec.ofNat 32 (i 0).val) 0#32) : BitVec 32) 0#32 = 1#1) (h2 : ¬ k0_cond2 i = 1#1)
    (x1 : Vec F S128x128 .f32) (x2 : Vec F S1x128x1024 .f32) (x3 : Vec F S128x4096 .f32) (d4 : Vec F S1x3968x1024 .f32) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare d4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare d4 ∗ owns (c : Thread nD τ) arg5 fullShare (EOUT x1 x2) ∗ owns (c : Thread nD τ) arg6 fullShare (COUT x1 x2) ∗ owns (c : Thread nD τ) arg7 fullShare (SOUT x2) ∗ owns (c : Thread nD τ) arg8 fullShare (fun z => US x3 (z 0).val (z 1).val (z 2).val) ∗ (∃ d, ⌜Kept d ((i 0).val % 2) (EN x1 x2)⌝ ∗ owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) 𝒱 c bd) E (cc0_gptq_block i arg1 harg1 arg2 harg2 arg3 harg3 arg4 harg4 arg5 harg5 arg6 harg6 arg7 harg7 arg8 harg8 arg9 harg9 arg10 harg10 arg11 harg11 arg12 harg12 arg13 harg13) K := by
  · simp only [cc0_gptq_block_eq_skeleton]; unfold cc0_gptq_block_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    subst hf1 hf2 hf3
    sl_exec (disch := first | sl_exact h1 | sl_exact h2)
    sl_step
    iapply Hk
    isplitl [H1]; · (iexists _; isplitr; swap; iexact H1; ipureintro; rfl)
    isplitl [H2]; · (iexists _; isplitr; swap; iexact H2; ipureintro; rfl)
    isplitl [H3]; · (iexists _; isplitr; swap; iexact H3; ipureintro; rfl)
    isplitl [H4]; · (iexists _; isplitr; swap; iexact H4; ipureintro; exact hf4)
    isplitl [H5]; · (iexists _; isplitr; swap; iexact H5; ipureintro; sl_unfold_run_names; exact errs_out arg5 arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) f5)
    isplitl [H6]; · (iexists _; isplitr; swap; iexact H6; ipureintro; sl_unfold_run_names; exact codes_out arg6 arg13 (fun n q => pk (CN (View.read (Elt F) arg1.view f1) (View.read (Elt F) arg2.view f2) n (2 * q)) (CN (View.read (Elt F) arg1.view f1) (View.read (Elt F) arg2.view f2) n (2 * q + 1))) _ (SC_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) f6)
    isplitl [H7]; · (iexists _; isplitr; swap; iexact H7; ipureintro; sl_unfold_run_names; exact scales_out arg7 _ _ (SV_eq 𝒱 c bd i arg1 harg1 arg2 harg2 arg3 harg3 arg4 harg4 arg5 harg5 arg6 harg6 arg7 harg7 arg8 harg8 arg9 harg9 arg10 harg10 arg11 harg11 arg12 harg12 arg13 harg13 f2 f10 _) _ _ _ _ _ _ _ _ _)
    isplitl [H8]; · (iexists _; isplitr; swap; iexact H8; ipureintro; sl_unfold_run_names; exact split_out arg3 arg8 f3 _)
    isplitl [H9]
    · iexists _
      isplitr
      swap
      · (iexists _; isplitr; swap; iexact H9; ipureintro; rfl)
      · ipureintro
        sl_unfold_run_names
        exact kept_out arg9 _ _ _ _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 7 _ _ _ (k0_off56_inb i) (k0_off57_inb i) (k0_off58_inb i) (k0_off56_eq i) (k0_off57_eq i) (k0_off58_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 6 _ _ _ (k0_off53_inb i) (k0_off54_inb i) (k0_off55_inb i) (k0_off53_eq i) (k0_off54_eq i) (k0_off55_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 5 _ _ _ (k0_off50_inb i) (k0_off51_inb i) (k0_off52_inb i) (k0_off50_eq i) (k0_off51_eq i) (k0_off52_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 4 _ _ _ (k0_off47_inb i) (k0_off48_inb i) (k0_off49_inb i) (k0_off47_eq i) (k0_off48_eq i) (k0_off49_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 3 _ _ _ (k0_off44_inb i) (k0_off45_inb i) (k0_off46_inb i) (k0_off44_eq i) (k0_off45_eq i) (k0_off46_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 2 _ _ _ (k0_off41_inb i) (k0_off42_inb i) (k0_off43_inb i) (k0_off41_eq i) (k0_off42_eq i) (k0_off43_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 1 _ _ _ (k0_off38_inb i) (k0_off39_inb i) (k0_off40_inb i) (k0_off38_eq i) (k0_off39_eq i) (k0_off40_eq i) _ (good9_cons arg11 _ _ (SE_eq 𝒱 c bd i arg1 harg1 arg2 harg2 arg3 harg3 arg4 harg4 arg5 harg5 arg6 harg6 arg7 harg7 arg8 harg8 arg9 harg9 arg10 harg10 arg11 harg11 arg12 harg12 arg13 harg13 f1 f2 f10 f11 f12 f13 _) ((i 0).val % 2) 0 _ _ _ (k0_off35_inb i) (k0_off36_inb i) (k0_off37_inb i) (k0_off35_eq i) (k0_off36_eq i) (k0_off37_eq i) _ (good9_nil _ _)))))))))
    isplitl [H10]; · (iexists _, _; isplitr; swap; iexact H10; ipureintro; rfl)
    isplitl [H11]; · (iexists _, _; isplitr; swap; iexact H11; ipureintro; rfl)
    isplitl [H12]; · (iexists _, _; isplitr; swap; iexact H12; ipureintro; rfl)
    (iexists _, _; isplitr; swap; iexact H13; ipureintro; rfl)

end Cert.KernelIdeal.Hand
end
-- ==== Proof.Hand.KRun.lean ====
module

public import proofs.«01_k».proof.Proof.Hand.Body
public import Idealize.ShloMosaic.Lib.Pipeline.ValueKit.Geometry

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## The lanes of the whole arrays -/

/-- The triangle: the first 128 columns of the rows of the inverse. -/
def XU (h : S128x4096.Idx → F .f32) : S128x128.Idx → F .f32 := fun z => h (ix2 ⟨(z 0).val % 128, Nat.mod_lt _ (by norm_num)⟩ ⟨(z 1).val % 4096, Nat.mod_lt _ (by norm_num)⟩)

/-- Group `q` of the weights: 1024 lanes of batch `q / 14`. -/
def XW (w : S2x128x14336.Idx → F .f32) (q : ℕ) : S1x128x1024.Idx → F .f32 :=
  fun z => w (ix3 ⟨q / 14 % 2, Nat.mod_lt _ (by norm_num)⟩ ⟨(z 1).val % 128, Nat.mod_lt _ (by norm_num)⟩ ⟨(1024 * (q % 14) + (z 2).val) % 14336, Nat.mod_lt _ (by norm_num)⟩)

/-- Lane `n` of batch `b`. -/
def WL (w : S2x128x14336.Idx → F .f32) (b n j : ℕ) : F .f32 :=
  w (ix3 ⟨b % 2, Nat.mod_lt _ (by norm_num)⟩ ⟨j % 128, Nat.mod_lt _ (by norm_num)⟩ ⟨n % 14336, Nat.mod_lt _ (by norm_num)⟩)

/-- The error of entry `j` of lane `n` of batch `b`. -/
def EG (w : S2x128x14336.Idx → F .f32) (h : S128x4096.Idx → F .f32) (b n j : ℕ) : F .f32 := er (sc (WL w b n)) (WL w b n) (ux (XU h)) j

/-- Its code. -/
def CG (w : S2x128x14336.Idx → F .f32) (h : S128x4096.Idx → F .f32) (b n j : ℕ) : F .f32 := cd (sc (WL w b n)) (WL w b n) (ux (XU h)) j

/-- A lane of a group is a lane of the array. -/
theorem Wn_XW (w : S2x128x14336.Idx → F .f32) (q n : ℕ) : Wn (XW w q) n = WL w (q / 14) (1024 * (q % 14) + n % 1024) := by
  funext j
  unfold Wn XW WL
  congr 1
  exact congrArg₂ (ix3 _) (Fin.ext (Nat.mod_mod _ _)) rfl

/-- So are its errors. -/
theorem EN_XW (w : S2x128x14336.Idx → F .f32) (h : S128x4096.Idx → F .f32) (q n j : ℕ) :
    EN (XU h) (XW w q) n j = EG w h (q / 14) (1024 * (q % 14) + n % 1024) j := by unfold EN EG; rw [Wn_XW]

/-- So are its codes. -/
theorem CN_XW (w : S2x128x14336.Idx → F .f32) (h : S128x4096.Idx → F .f32) (q n j : ℕ) :
    CN (XU h) (XW w q) n j = CG w h (q / 14) (1024 * (q % 14) + n % 1024) j := by unfold CN CG; rw [Wn_XW]

/-! ## The conditions and the windows' blocks at a point -/

/-- The grid coordinate of point `t` is `t`. -/
theorem coord : ∀ t : Fin grid0.N, (grid0.coords t 0).val = t.val := by decide +kernel

/-- The two conditions at point 0. -/
theorem conds_first : ∀ t : Fin grid0.N, t.val = 0 →
    (Scalar.cmpi .ne (Scalar.extui (Scalar.cmpi .eq (BitVec.ofNat 32 (grid0.coords t 0).val) 0#32) : BitVec 32) 0#32 = 1#1 ∧ ¬ k0_cond2 (grid0.coords t) = 1#1) := by
  decide +kernel

/-- The two conditions at every other point. -/
theorem conds_next : ∀ t : Fin grid0.N, ¬ t.val = 0 →
    (¬ Scalar.cmpi .ne (Scalar.extui (Scalar.cmpi .eq (BitVec.ofNat 32 (grid0.coords t 0).val) 0#32) : BitVec 32) 0#32 = 1#1 ∧ k0_cond2 (grid0.coords t) = 1#1) := by
  decide +kernel

theorem idx0_0 : ∀ t : Fin grid0.N, win0_0.index t = ![0, 0] := by decide +kernel
theorem idx0_1 : ∀ t : Fin grid0.N, win0_1.index t = ![min t.val 27 / 14, 0, min t.val 27 % 14] := by decide +kernel
theorem idx0_2 : ∀ t : Fin grid0.N, win0_2.index t = ![0, 0] := by decide +kernel
theorem idx0_3 : ∀ t : Fin grid0.N, win0_3.index t = ![(t.val - 1) / 14, 0, (t.val - 1) % 14] := by decide +kernel
theorem idx0_4 : ∀ t : Fin grid0.N, win0_4.index t = ![min t.val 27 / 14, 0, min t.val 27 % 14] := by decide +kernel
theorem idx0_5 : ∀ t : Fin grid0.N, win0_5.index t = ![min t.val 27 / 14, 0, min t.val 27 % 14] := by decide +kernel
theorem idx0_6 : ∀ t : Fin grid0.N, win0_6.index t = ![min t.val 27 / 14, 0, min t.val 27 % 14] := by decide +kernel

/-- The weights on core `c`. -/
abbrev aw (c : Dev nD) : S2x128x14336.Idx → F .f32 := m ((c.tc : Thread nD τ).loc main_arg0)
/-- The rows of the inverse on core `c`. -/
abbrev ah (c : Dev nD) : S128x4096.Idx → F .f32 := m ((c.tc : Thread nD τ).loc main_arg1)

theorem blk0 (c : Dev nD) (t : Fin cfg0.N) : iblk m c 0 t = XU (ah m c) := by
  funext z
  have e := idx0_0 t
  show V m c main_arg1 ((win0_0.blk t).view.emb z) = ah m c _
  rw [V_main_arg1]
  refine congrArg (ah m c) ?_
  idx_bounds z
  blk_ext [e]

theorem blk1 (c : Dev nD) (t : Fin cfg0.N) : iblk m c 1 t = XW (aw m c) (min t.val 27) := by
  funext z
  have e := idx0_1 t
  show V m c main_arg0 ((win0_1.blk t).view.emb z) = aw m c _
  rw [V_main_arg0]
  refine congrArg (aw m c) ?_
  idx_bounds z
  blk_ext [e]

theorem blk2 (c : Dev nD) (t : Fin cfg0.N) : iblk m c 2 t = ah m c := by
  funext z
  have e := idx0_2 t
  show V m c main_arg1 ((win0_2.blk t).view.emb z) = ah m c _
  rw [V_main_arg1]
  refine congrArg (ah m c) ?_
  idx_bounds z
  blk_ext [e]

/-! ## The proof data -/

/-- What the scratch holds before a point after the first: the parts of the inverse, the parts of the errors of the group before, anything else. -/
def Scr (c : Dev nD) (t : ℕ) : sProp 𝕄G :=
  iprop((owns (c : Thread nD τ) (Memref.whole cc0_scratch0) fullShare (fun z => US (ah m c) (z 0).val (z 1).val (z 2).val : S2x3968x256.Idx → F .bf16)
      ∗ (∃ d, ⌜Kept d ((t - 1) % 2) (EN (XU (ah m c)) (XW (aw m c) (min (t - 1) 27)))⌝ ∗ owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d))
    ∗ ∃ r, prngReg c r)

/-- The proof data on core `c`: every input at its block, every output at what the body computes of the group it works on. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (US (ah m c)) (EN (XU (ah m c)) (XW (aw m c) (min (t.val - 1) 27)))
    | ⟨4, _⟩ => EOUT (XU (ah m c)) (XW (aw m c) (min t.val 27))
    | ⟨5, _⟩ => COUT (XU (ah m c)) (XW (aw m c) (min t.val 27))
    | ⟨6, _⟩ => SOUT (XW (aw m c) (min t.val 27))
    | ⟨n + 7, h⟩ => Pipeline.Dat.unnamed (cfg := cfg0) ⟨n + 7, h⟩ t
  Φ t := if t.val = 0 then Pipeline.ΦA spec0 c else Scr m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = OUT (US (ah m c)) (EN (XU (ah m c)) (XW (aw m c) (min (t.val - 1) 27))) := by dsimp only [dats]
theorem after0_4 (c : Dev nD) (t : Fin cfg0.N) : (dats m 0 c).after 4 t = EOUT (XU (ah m c)) (XW (aw m c) (min t.val 27)) := by dsimp only [dats]
theorem after0_5 (c : Dev nD) (t : Fin cfg0.N) : (dats m 0 c).after 5 t = COUT (XU (ah m c)) (XW (aw m c) (min t.val 27)) := by dsimp only [dats]
theorem after0_6 (c : Dev nD) (t : Fin cfg0.N) : (dats m 0 c).after 6 t = SOUT (XW (aw m c) (min t.val 27)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch buffers and the generator register, one by one. -/
theorem PhiA_eq (c : Dev nD) : (Pipeline.ΦA spec0 c : sProp 𝕄G)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d))
      ∗ ∃ r, prngReg c r) := by
  unfold Pipeline.ΦA
  rw [scopedRest0_eq]
  simp only [owns_whole]; try rfl

/-- The invariant at point 0, -/
theorem Phi_zero (c : Dev nD) (t : Fin (cfg0.N + 1)) (h : t.val = 0) : (dats m 0 c).Φ t = (Pipeline.ΦA spec0 c : sProp 𝕄G) := if_pos h
/-- and at a later one. -/
theorem Phi_pos (c : Dev nD) (t : Fin (cfg0.N + 1)) (h : ¬ t.val = 0) : (dats m 0 c).Φ t = Scr m c t.val := if_neg h

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)) ∗ (∃ d, owns (c : Thread nD τ) (st0_4 t) fullShare ((dats m 0 c).before 4 t d))
    ∗ (∃ d, owns (c : Thread nD τ) (st0_5 t) fullShare ((dats m 0 c).before 5 t d)) ∗ (∃ d, owns (c : Thread nD τ) (st0_6 t) fullShare ((dats m 0 c).before 6 t d)))

/-- and what it returns: the update's block as found at a point where nothing is stored there, -/
def post3 (c : Dev nD) (t : Fin cfg0.N) : sProp 𝕄G :=
  match cfg0.idle 3 (cfg0.grid.coords t) with
  | true =>
    match (cfg0.win 3).flush t with
    | false => iprop(∃ d, owns (c : Thread nD τ) (st0_3 t) fullShare ((dats m 0 c).before 3 t d))
    | true => owns (c : Thread nD τ) (st0_3 t) fullShare ((dats m 0 c).after 3 t)
  | false => owns (c : Thread nD τ) (st0_3 t) fullShare ((dats m 0 c).after 3 t)

/-- the others as computed. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ post3 m c t
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem idle_first : ∀ t : Fin grid0.N, t.val = 0 → idle0 3 (grid0.coords t) = true := by decide +kernel
theorem idle_next : ∀ t : Fin grid0.N, ¬ t.val = 0 → idle0 3 (grid0.coords t) = false := by decide +kernel
theorem flush_first : ∀ t : Fin grid0.N, t.val = 0 → win0_3.flush t = false := by decide +kernel

theorem post3_first (c : Dev nD) (t : Fin cfg0.N) (h : t.val = 0) :
    post3 m c t = iprop(∃ d, owns (c : Thread nD τ) (st0_3 t) fullShare ((dats m 0 c).before 3 t d)) := by
  unfold post3
  rw [show cfg0.idle 3 (cfg0.grid.coords t) = true from idle_first t h, show (cfg0.win 3).flush t = false from flush_first t h]

theorem post3_next (c : Dev nD) (t : Fin cfg0.N) (h : ¬ t.val = 0) :
    post3 m c t = owns (c : Thread nD τ) (st0_3 t) fullShare ((dats m 0 c).after 3 t) := by
  unfold post3
  rw [show cfg0.idle 3 (cfg0.grid.coords t) = false from idle_next t h]

/-- The body at point 0. -/
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_zero m c t.castSucc h, Phi_pos m c t.succ (by simp), post3_first m c t h,
    show (dats m 0 c).owesAt () t.succ = (dats m 0 c).owesAt () t.castSucc from rfl,
    after0_0, after0_1, after0_2, after0_4, after0_5, after0_6, PhiA_eq, blk0, blk1, blk2]
  unfold Scr
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
  iapply (sound_first Variants.none c none (grid0.coords t) _ _ _ _ _ _ _ _ _ _ _ _ _ _ _ _ _ _ _ _ _ _ _ _ _ _ (conds_first t h).1 (conds_first t h).2 (XU (ah m c)) (XW (aw m c) (min t.val 27)) (ah m c) ((dats m 0 c).before 3 t d3) Set.univ _)
  isplitl [H0]; · iexact H0
  isplitl [H1]; · iexact H1
  isplitl [H2]; · iexact H2
  isplitl [H3]; · iexact H3
  isplitl [H4]; · (iexists _; iexact H4)
  isplitl [H5]; · (iexists _; iexact H5)
  isplitl [H6]; · (iexists _; iexact H6)
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, ⟨%d, %hd, S1⟩, S2, S3, S4, S5⟩
  isplitl [S0 S1 S2 S3 S4 S5 Hg]
  · isplitl [S0 S1 S2 S3 S4 S5]
    · isplitl [S0]; · iexact S0
      isplitl [S1]
      · (iexists d; isplitr; swap; iexact S1; ipureintro
         have e1 : (grid0.coords t 0).val % 2 = (t.succ.val - 1) % 2 := by rw [coord t]; rfl
         have e2 : min t.val 27 = min (t.succ.val - 1) 27 := by rfl
         rw [← e1, ← e2]; exact hd)
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · (iexists d3; iexact H3)
  isplitl [H4]; · iexact H4
  isplitl [H5]; · iexact H5
  iexact H6

/-- The body at a later point. -/
theorem body_next (c : Dev nD) (t : Fin cfg0.N) (h : ¬ t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_pos m c t.castSucc h, Phi_pos m c t.succ (by simp), post3_next m c t h,
    show (dats m 0 c).owesAt () t.succ = (dats m 0 c).owesAt () t.castSucc from rfl,
    after0_0, after0_1, after0_2, after0_3, after0_4, after0_5, after0_6, blk0, blk1, blk2]
  unfold Scr
  iintro ⟨⟨⟨S0, ⟨%d, %hd, S1⟩, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
  iapply (sound_next Variants.none c none (grid0.coords t) _ _ _ _ _ _ _ _ _ _ _ _ _ _ _ _ _ _ _ _ _ _ _ _ _ _ (conds_next t h).1 (conds_next t h).2 (XU (ah m c)) (XW (aw m c) (min t.val 27)) (ah m c)
    (US (ah m c)) (EN (XU (ah m c)) (XW (aw m c) (min (t.val - 1) 27))) Set.univ _)
  isplitl [H0]; · iexact H0
  isplitl [H1]; · iexact H1
  isplitl [H2]; · iexact H2
  isplitl [H3]; · (iexists _; iexact H3)
  isplitl [H4]; · (iexists _; iexact H4)
  isplitl [H5]; · (iexists _; iexact H5)
  isplitl [H6]; · (iexists _; iexact H6)
  isplitl [S0]; · iexact S0
  isplitl [S1]
  · (iexists d; isplitr; swap; iexact S1; ipureintro
     have e1 : 1 - (grid0.coords t 0).val % 2 = (t.castSucc.val - 1) % 2 := by rw [coord t]; have : t.castSucc.val = t.val := rfl; omega
     rw [e1]; exact hd)
  isplitl [S2]; · iexact S2
  isplitl [S3]; · iexact S3
  isplitl [S4]; · iexact S4
  isplitl [S5]; · iexact S5
  iintro ⟨H0, H1, H2, H3, H4, H5, H6, S0, ⟨%d', %hd', S1⟩, S2, S3, S4, S5⟩
  isplitl [S0 S1 S2 S3 S4 S5 Hg]
  · isplitl [S0 S1 S2 S3 S4 S5]
    · isplitl [S0]; · iexact S0
      isplitl [S1]
      · (iexists d'; isplitr; swap; iexact S1; ipureintro
         have e1 : (grid0.coords t 0).val % 2 = (t.succ.val - 1) % 2 := by rw [coord t]; rfl
         have e2 : min t.val 27 = min (t.succ.val - 1) 27 := by rfl
         rw [← e1, ← e2]; exact hd')
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact body_first m c t h
  · exact body_next m c t h

theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-- The scratch at the end is the scratch at some contents. -/
theorem Scr_out (c : Dev nD) (t : ℕ) : Scr m c t ⊢ (Pipeline.ΦA spec0 c : sProp 𝕄G) := by
  rw [PhiA_eq]
  unfold Scr
  iintro ⟨⟨S0, ⟨%d, %hd, S1⟩, S2, S3, S4, S5⟩, Hg⟩
  isplitl [S0 S1 S2 S3 S4 S5]
  · isplitl [S0]; · (iexists _; iexact S0)
    isplitl [S1]; · (iexists _; iexact S1)
    isplitl [S2]; · iexact S2
    isplitl [S3]; · iexact S3
    isplitl [S4]; · iexact S4
    iexact S5
  iexact Hg

set_option backward.isDefEq.respectTransparency.types false in
/-- The run: every execution ends with every semaphore at zero and every array as the proof data say. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [Phi_zero m c 0 rfl]) (hout := fun c => by rw [Phi_pos m c (Fin.last cfg0.N) (by simp [Fin.val_last]; decide)]; exact Scr_out m c _)

/-! ## The result arrays -/

/-- Entry `p` of the update of lane `n` of group `q`. -/
def RG (w : S2x128x14336.Idx → F .f32) (h : S128x4096.Idx → F .f32) (q p n : ℕ) : F .f32 :=
  matmul dot_S496x768_S768x256_S496x256_1_0_0_1_n_n none (LT (US h) (p / 496)) (RT (EN (XU h) (XW w q)) (n / 256)) (constant S496x256 .f32 0x00000000#32)
    (ix2 ⟨p % 496, Nat.mod_lt _ (by norm_num)⟩ ⟨n % 256, Nat.mod_lt _ (by norm_num)⟩)
/-- The update. -/
def R0 (w : S2x128x14336.Idx → F .f32) (h : S128x4096.Idx → F .f32) : S2x3968x14336.Idx → F .f32 :=
  fun z => RG w h (14 * (z 0).val + (z 2).val / 1024) (z 1).val ((z 2).val % 1024)
/-- The errors. -/
def R1 (w : S2x128x14336.Idx → F .f32) (h : S128x4096.Idx → F .f32) : S2x128x14336.Idx → F .f32 := fun z => EG w h (z 0).val (z 2).val (z 1).val
/-- The packed codes. -/
def R2 (w : S2x128x14336.Idx → F .f32) (h : S128x4096.Idx → F .f32) : S2x64x14336.Idx → BitVec 8 :=
  fun z => BitVec.setWidth 8 (pk (CG w h (z 0).val (z 2).val (2 * (z 1).val)) (CG w h (z 0).val (z 2).val (2 * (z 1).val + 1)))
/-- The scales. -/
def R3 (w : S2x128x14336.Idx → F .f32) : S2x1x14336.Idx → F .f32 := fun z => sc (WL w (z 0).val (z 2).val)

theorem final0 (c : Dev nD) : (dats m 0 c).arrAt 3 cfg0.N = R0 (aw m c) (ah m c) := by
  refine (dats m 0 c).arrAt_eq_of_covers 3 _ (by decide +kernel) fun t hf y => ?_
  have e := idx0_3 t
  have ht : t.val < 29 := t.isLt
  blk_simp
  rw [after0_3]
  idx_bounds y
  have e0 : ((win0_3.blk t).view.emb y 0).val = (t.val - 1) / 14 := by blk_simp [e]; try omega
  have e1 : ((win0_3.blk t).view.emb y 1).val = (y 1).val := by blk_simp [e]; try omega
  have e2 : ((win0_3.blk t).view.emb y 2).val = 1024 * ((t.val - 1) % 14) + (y 2).val := by blk_simp [e]; try omega
  show RG (aw m c) (ah m c) (min (t.val - 1) 27) (y 1).val (y 2).val = RG (aw m c) (ah m c) (14 * ((win0_3.blk t).view.emb y 0).val + ((win0_3.blk t).view.emb y 2).val / 1024)
    ((win0_3.blk t).view.emb y 1).val (((win0_3.blk t).view.emb y 2).val % 1024)
  rw [e0, e1, e2]
  congr 1 <;> omega

theorem final1 (c : Dev nD) : (dats m 0 c).arrAt 4 cfg0.N = R1 (aw m c) (ah m c) := by
  refine (dats m 0 c).arrAt_eq_of_covers 4 _ (by decide +kernel) fun t hf y => ?_
  have e := idx0_4 t
  blk_simp
  rw [after0_4]
  unfold EOUT R1
  rw [EN_XW]
  idx_bounds y
  have e0 : ((win0_4.blk t).view.emb y 0).val = min t.val 27 / 14 := by blk_simp [e]; try omega
  have e1 : ((win0_4.blk t).view.emb y 1).val = (y 1).val := by blk_simp [e]; try omega
  have e2 : ((win0_4.blk t).view.emb y 2).val = 1024 * (min t.val 27 % 14) + (y 2).val % 1024 := by blk_simp [e]; try omega
  show _ = EG (aw m c) (ah m c) ((win0_4.blk t).view.emb y 0).val ((win0_4.blk t).view.emb y 2).val ((win0_4.blk t).view.emb y 1).val
  rw [e0, e1, e2]

theorem final2 (c : Dev nD) : (dats m 0 c).arrAt 5 cfg0.N = R2 (aw m c) (ah m c) := by
  refine (dats m 0 c).arrAt_eq_of_covers 5 _ (by decide +kernel) fun t hf y => ?_
  have e := idx0_5 t
  blk_simp
  rw [after0_5]
  unfold COUT R2
  rw [CN_XW, CN_XW]
  idx_bounds y
  have e0 : ((win0_5.blk t).view.emb y 0).val = min t.val 27 / 14 := by blk_simp [e]; try omega
  have e1 : ((win0_5.blk t).view.emb y 1).val = (y 1).val := by blk_simp [e]; try omega
  have e2 : ((win0_5.blk t).view.emb y 2).val = 1024 * (min t.val 27 % 14) + (y 2).val % 1024 := by blk_simp [e]; try omega
  show _ = BitVec.setWidth 8 (pk (CG (aw m c) (ah m c) ((win0_5.blk t).view.emb y 0).val ((win0_5.blk t).view.emb y 2).val (2 * ((win0_5.blk t).view.emb y 1).val))
    (CG (aw m c) (ah m c) ((win0_5.blk t).view.emb y 0).val ((win0_5.blk t).view.emb y 2).val (2 * ((win0_5.blk t).view.emb y 1).val + 1)))
  rw [e0, e1, e2]

theorem final3 (c : Dev nD) : (dats m 0 c).arrAt 6 cfg0.N = R3 (aw m c) := by
  refine (dats m 0 c).arrAt_eq_of_covers 6 _ (by decide +kernel) fun t hf y => ?_
  have e := idx0_6 t
  blk_simp
  rw [after0_6]
  unfold SOUT R3
  rw [Wn_XW]
  idx_bounds y
  have e0 : ((win0_6.blk t).view.emb y 0).val = min t.val 27 / 14 := by blk_simp [e]; try omega
  have e2 : ((win0_6.blk t).view.emb y 2).val = 1024 * (min t.val 27 % 14) + (y 2).val % 1024 := by blk_simp [e]; try omega
  show _ = sc (WL (aw m c) ((win0_6.blk t).view.emb y 0).val ((win0_6.blk t).view.emb y 2).val)
  rw [e0, e2]

/-- THE FRAME: the run ends with the two arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).1 1).trans (((dats m 0 c).arrAt_in 1 rfl _).trans ((A_eq m c 1).trans (V_main_arg0 m c))),
     ((h.1 c).1 2).trans (((dats m 0 c).arrAt_in 2 rfl _).trans ((A_eq m c 2).trans (V_main_arg1 m c)))⟩, h.2⟩) (run_main m ρ)

/-- The run with its results: the arguments as they were, and the four arrays. -/
theorem run_value : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v0_0) = R0 (aw m c) (ah m c)
      ∧ r.2.mem ((c.tc : Thread nD τ).loc main_v0_1) = R1 (aw m c) (ah m c)
      ∧ r.2.mem ((c.tc : Thread nD τ).loc main_v0_2) = R2 (aw m c) (ah m c)
      ∧ r.2.mem ((c.tc : Thread nD τ).loc main_v0_3) = R3 (aw m c)) :=
  (θ_run defs _ _).mono (fun _ h c =>
    ⟨⟨((h.1 c).1 1).trans (((dats m 0 c).arrAt_in 1 rfl _).trans ((A_eq m c 1).trans (V_main_arg0 m c))),
     ((h.1 c).1 2).trans (((dats m 0 c).arrAt_in 2 rfl _).trans ((A_eq m c 2).trans (V_main_arg1 m c)))⟩,
     ((h.1 c).1 3).trans (final0 m c), ((h.1 c).1 4).trans (final1 m c), ((h.1 c).1 5).trans (final2 m c), ((h.1 c).1 6).trans (final3 m c)⟩) (run_main m ρ)

end Cert.KernelIdeal.Hand
end
-- ==== Proof.Hand.RefRun.lean ====
/- The reference program's run: its arguments end as they were, and it has no semaphores. -/
module

public import proofs.«01_k».proof.Proof.Gen.ReferenceIdeal.Run

@[expose] public section

noncomputable section

namespace Cert.ReferenceIdeal.Hand

open Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- What the reference's loop body, its condition and its tail write. -/
abbrev loopW : List (Ref sig .tc) :=
  condOps_W ++ (while0Ops0_W ++ (while0Ops0_1_W ++ (while0Ops0_2_W ++ (while0Ops0_3_W ++ (while0Ops0_4_W ++ (while0Ops0_5_W ++ (while0Ops0_6_W ++ while0Ops0_7_W)))))))

/-- A buffer that no operation of the loop writes is after `k` trips as it was at the loop's entry. -/
theorem atTrip_keep (W₀ : Dev nD → Valuation τ sig (Elt F)) (c : Dev nD) {b : Ref sig .tc} (hb : b ∉ loopW) : ∀ k,
    atTrip condOps bodyI W₀ k c (Proc.devRef .tc b) = W₀ c (Proc.devRef .tc b)
  | 0 => rfl
  | k + 1 => by
    simp only [loopW, List.mem_append, not_or] at hb
    obtain ⟨hc, h0, h1, h2, h3, h4, h5, h6, h7⟩ := hb
    rw [atTrip_succ]
    simp only [afterL_cons, afterL_nil]
    rw [after_of_writes_sub while0Ops0_7 _ while0Ops0_7_writes h7, after_of_writes_sub while0Ops0_6 _ while0Ops0_6_writes h6,
      after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, atTrip_keep W₀ c (by simp only [loopW, List.mem_append, not_or]; exact ⟨hc, h0, h1, h2, h3, h4, h5, h6, h7⟩) k]

variable (m : (ℓ : Loc nD τ sig) → Buf (Elt F) ℓ) (ρ : Dev nD → PrngReg)

/-- A buffer written neither in the loop nor after it ends as it was at the loop's entry. -/
theorem final_keep (c : Dev nD) {b : Ref sig .tc} (hb : b ∉ loopW) (hp : b ∉ hostOps0_3_W) :
    finalContents condOps preI bodyI postI 128 m c (Proc.devRef .tc b) = entryContents preI m c (Proc.devRef .tc b) := by
  show afterL postI _ _ = _
  have hc : b ∉ condOps_W := fun h => hb (List.mem_append_left _ h)
  simp only [afterL_cons, afterL_nil]
  rw [after_of_writes_sub hostOps0_3 _ hostOps0_3_writes hp, after_of_writes_sub condOps _ condOps_writes hc, atTrip_keep _ c hb]
  simp only [entryContents, afterL_cons, afterL_nil]

/-- A buffer that nothing writes ends as the launch has it. -/
theorem final_arg (c : Dev nD) {b : Ref sig .tc} (hb : b ∉ loopW) (hp : b ∉ hostOps0_3_W)
    (h0 : b ∉ hostOps0_W) (h1 : b ∉ hostOps0_1_W) (h2 : b ∉ hostOps0_2_W) :
    finalContents condOps preI bodyI postI 128 m c (Proc.devRef .tc b) = m ((c.tc : Thread nD τ).loc b) := by
  rw [final_keep m c hb hp]
  simp only [entryContents, afterL_cons, afterL_nil]
  rw [after_of_writes_sub hostOps0_2 _ hostOps0_2_writes h2, after_of_writes_sub hostOps0_1 _ hostOps0_1_writes h1,
    after_of_writes_sub hostOps0 _ hostOps0_writes h0]

/-- THE FRAME: the run ends with the two arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h c main_arg0 rfl).trans (final_arg m c (by decide +kernel) (by decide +kernel) (by decide +kernel) (by decide +kernel) (by decide +kernel)),
     (h c main_arg1 rfl).trans (final_arg m c (by decide +kernel) (by decide +kernel) (by decide +kernel) (by decide +kernel) (by decide +kernel))⟩,
    by funext x; rcases x with ⟨_, s | s⟩ <;> exact Fin.elim0 s⟩) (run_fold m ρ)

end Cert.ReferenceIdeal.Hand

end
-- ==== Proof.Hand.Code.lean ====
/- A code is an integer between -7 and 7, so its casts to int32 and to int8 and back change nothing. -/
module

public import proofs.«01_k».proof.Proof.Hand.Quant
public import Idealize.ShloMosaic.PureOps.Ideal.Laws

@[expose] public section

set_option maxRecDepth 8192
set_option maxHeartbeats 2000000

noncomputable section

namespace Cert.KernelIdeal.Hand

open Cert.KernelIdeal Cert.KernelIdeal.Gen
open Idealize.ShloMosaic Idealize.ShloMosaic.TcCoe Idealize.ShloMosaic.Tactic

theorem lit7 : Ideal.ofBits .f32 0x40E00000#32 = ((7 : ℝ) : EReal) := by
  simp [Ideal.ofBits, Ideal.ieee]
  rw [← EReal.coe_mul]
  norm_num

theorem litm7 : Ideal.ofBits .f32 0xC0E00000#32 = ((-7 : ℝ) : EReal) := by
  simp [Ideal.ofBits, Ideal.ieee]
  rw [← EReal.coe_mul]
  norm_num

theorem clip_int (k : ℤ) : ∃ n : ℤ, -7 ≤ n ∧ n ≤ 7 ∧ min ((7 : ℝ) : EReal) (max ((-7 : ℝ) : EReal) ((k : ℝ) : EReal)) = ((n : ℝ) : EReal) := by
  have h77 : ((-7 : ℝ) : EReal) ≤ ((7 : ℝ) : EReal) := by exact_mod_cast (by norm_num : (-7 : ℝ) ≤ 7)
  rcases le_total k (-7) with h | h
  · have : ((k : ℝ) : EReal) ≤ ((-7 : ℝ) : EReal) := EReal.coe_le_coe_iff.2 (by exact_mod_cast h)
    exact ⟨-7, le_rfl, by norm_num, by rw [max_eq_left this, min_eq_right h77]; norm_num⟩
  · have h' : ((-7 : ℝ) : EReal) ≤ ((k : ℝ) : EReal) := EReal.coe_le_coe_iff.2 (by exact_mod_cast h)
    rw [max_eq_right h']
    rcases le_total k 7 with g | g
    · have : ((k : ℝ) : EReal) ≤ ((7 : ℝ) : EReal) := EReal.coe_le_coe_iff.2 (by exact_mod_cast g)
      exact ⟨k, h, g, min_eq_right this⟩
    · have : ((7 : ℝ) : EReal) ≤ ((k : ℝ) : EReal) := EReal.coe_le_coe_iff.2 (by exact_mod_cast g)
      exact ⟨7, by norm_num, le_rfl, by rw [min_eq_left this]; norm_num⟩

/-- A code is an integer between -7 and 7. -/
theorem Ec_int (s w : Ideal .f32) : ∃ n : ℤ, -7 ≤ n ∧ n ≤ 7 ∧ (Ec s w : EReal) = ((n : ℝ) : EReal) := by
  have e : (Ec s w : EReal) = min ((7 : ℝ) : EReal) (max ((-7 : ℝ) : EReal) (Ideal.liftRound Ideal.roundHalfEven (Ideal.div w s))) := by
    rw [← lit7, ← litm7]
    rfl
  have h77 : ((-7 : ℝ) : EReal) ≤ ((7 : ℝ) : EReal) := by exact_mod_cast (by norm_num : (-7 : ℝ) ≤ 7)
  rw [e]
  generalize Ideal.div w s = q
  induction q with
  | bot =>
    refine ⟨-7, le_rfl, by norm_num, ?_⟩
    show min _ (max _ ⊥) = _
    rw [max_eq_left bot_le, min_eq_right h77]
    norm_num
  | top =>
    refine ⟨7, by norm_num, le_rfl, ?_⟩
    show min _ (max _ ⊤) = _
    rw [max_eq_right le_top, min_eq_left le_top]
    norm_num
  | coe r => exact clip_int _

/-- The int32 of a small integer. -/
theorem fptosi_int (n : ℤ) (h1 : -7 ≤ n) (h2 : n ≤ 7) : Ideal.fptosi 32 ((n : ℝ) : EReal) = BitVec.ofInt 32 n := by
  unfold Ideal.fptosi
  refine congrArg _ ?_
  show max _ (min _ (if 0 ≤ (n : ℝ) then ⌊(n : ℝ)⌋ else ⌈(n : ℝ)⌉)) = n
  rw [Int.floor_intCast, Int.ceil_intCast, ite_self]
  norm_num
  omega

theorem small_trip (n : ℤ) (h1 : -7 ≤ n) (h2 : n ≤ 7) :
    BitVec.signExtend 32 (BitVec.setWidth 8 (BitVec.ofInt 32 n)) = BitVec.ofInt 32 n ∧ (BitVec.ofInt 32 n).toInt = n := by
  interval_cases n <;> decide

/-- A code's int8. -/
def c8 (x : Ideal .f32) : BitVec 8 := BitVec.setWidth 8 (FloatOps.fptosi 32 x)

/-- From int8 a code's int32 comes back. -/
theorem c8_i32 (s w : Ideal .f32) : BitVec.signExtend 32 (c8 (Ec s w)) = FloatOps.fptosi 32 (Ec s w) := by
  obtain ⟨n, h1, h2, e⟩ := Ec_int s w
  have : (FloatOps.fptosi 32 (Ec s w) : BitVec 32) = BitVec.ofInt 32 n := (congrArg (Ideal.fptosi 32) e).trans (fptosi_int n h1 h2)
  unfold c8
  rw [this]
  exact (small_trip n h1 h2).1

/-- From int8 a code comes back. -/
theorem c8_f32 (s w : Ideal .f32) : (FloatOps.sitofp .f32 (BitVec.signExtend 32 (c8 (Ec s w))) : Ideal .f32) = Ec s w := by
  obtain ⟨n, h1, h2, e⟩ := Ec_int s w
  have : (FloatOps.fptosi 32 (Ec s w) : BitVec 32) = BitVec.ofInt 32 n := (congrArg (Ideal.fptosi 32) e).trans (fptosi_int n h1 h2)
  rw [c8_i32, this]
  refine Eq.trans ?_ e.symm
  show (((BitVec.ofInt 32 n).toInt : ℝ) : EReal) = _
  rw [(small_trip n h1 h2).2]

end Cert.KernelIdeal.Hand

end
-- ==== Proof.Hand.RefVal.lean ====
module

public import proofs.«01_k».proof.Proof.Hand.KRun
public import proofs.«01_k».proof.Proof.Hand.RefRun
public import proofs.«01_k».proof.Proof.Hand.Code
public import Idealize.ShloMosaic.PureOps.Ideal.Laws
public import Idealize.ShloMosaic.Lib.Pointwise

@[expose] public section

set_option maxRecDepth 8192
set_option maxHeartbeats 2000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.KernelIdeal.Hand (P er cd Ec Ew upd ux sc AM WL XU EG CG pk c8 c8_f32 c8_i32)

/-- Contents of the reference's buffers. -/
abbrev VAL := Valuation τ sig (Elt Ideal)

abbrev g0 (V : VAL) : S2x1x14336.Idx → Ideal .f32 := V (Proc.devRef .tc main_v11_0)
abbrev g1 (V : VAL) : S128x128.Idx → Ideal .f32 := V (Proc.devRef .tc main_v11_1)
abbrev g3 (V : VAL) : S_.Idx → BitVec 32 := V (Proc.devRef .tc main_v11_3)
abbrev g4 (V : VAL) : S2x128x14336.Idx → Ideal .f32 := V (Proc.devRef .tc main_v11_4)
abbrev g5 (V : VAL) : S2x128x14336.Idx → BitVec 8 := V (Proc.devRef .tc main_v11_5)
abbrev g6 (V : VAL) : S2x128x14336.Idx → Ideal .f32 := V (Proc.devRef .tc main_v11_6)

/-! ## Slices at a trip's index -/

/-- The index of a slice, wrapped where it is negative: at trip `k` it is `k`. -/
theorem wrap (X : S_.Idx → BitVec 32) (k : ℕ) (hk : k < 128) (hX : X = fun _ => BitVec.ofNat 32 k) :
    select (cmpi .slt X (constantI S_ 32 0#32)) (addi (id X) (constantI S_ 32 128#32)) X = fun _ => BitVec.ofNat 32 k := by
  subst hX
  funext z
  have : ∀ k : Fin 128, Scalar.select (IntOp.cmpi .slt (BitVec.ofNat 32 k.val) 0#32) (IntOp.addi (BitVec.ofNat 32 k.val) 128#32) (BitVec.ofNat 32 k.val) = BitVec.ofNat 32 k.val := by
    decide +kernel
  exact this ⟨k, hk⟩

/-- Its integer. -/
theorem wrapInt (k : ℕ) (hk : k < 128) : (BitVec.ofNat 32 k).toInt = (k : Int) := by
  have : ∀ k : Fin 128, (BitVec.ofNat 32 k.val).toInt = ((k.val : ℕ) : Int) := by decide +kernel
  exact this ⟨k, hk⟩

theorem dyn3 {α : Type} (x : S2x128x14336.Idx → α) (start : Fin 3 → Int) (k : ℕ) (hk : k < 128) (h0 : start 0 = (0 : ℕ)) (h1 : start 1 = k) (h2 : start 2 = (0 : ℕ))
    (h : S2x128x14336.Slices (fun _ => 0) S2x1x14336) (z : S2x1x14336.Idx) :
    Host.dynamicSlice S2x1x14336 x start h z = x (ix3 (z 0) ⟨k, hk⟩ (z 2)) := by
  rw [Host.dynamicSlice_apply]
  have e0 := Host.clampedStart_of_le h.1 start 0 0 h0 (show 0 + 2 ≤ 2 by omega)
  have e1 := Host.clampedStart_of_le h.1 start 1 k h1 (show k + 1 ≤ 128 by omega)
  have e2 := Host.clampedStart_of_le h.1 start 2 0 h2 (show 0 + 14336 ≤ 14336 by omega)
  refine congrArg x (funext fun a => Fin.ext ?_)
  have hz : (z 1).val < 1 := (z 1).isLt
  fin_cases a
  · show Host.clampedStart _ _ h.1 start 0 + (z 0).val = (z 0).val; rw [e0]; omega
  · show Host.clampedStart _ _ h.1 start 1 + (z 1).val = k; rw [e1]; omega
  · show Host.clampedStart _ _ h.1 start 2 + (z 2).val = (z 2).val; rw [e2]; omega

theorem dyn2 {α : Type} (x : S128x128.Idx → α) (start : Fin 2 → Int) (k : ℕ) (hk : k < 128) (h0 : start 0 = k) (h1 : start 1 = (0 : ℕ))
    (h : S128x128.Slices (fun _ => 0) S1x128) (z : S1x128.Idx) :
    Host.dynamicSlice S1x128 x start h z = x (ix2 ⟨k, hk⟩ (z 1)) := by
  rw [Host.dynamicSlice_apply]
  have e0 := Host.clampedStart_of_le h.1 start 0 k h0 (show k + 1 ≤ 128 by omega)
  have e1 := Host.clampedStart_of_le h.1 start 1 0 h1 (show 0 + 128 ≤ 128 by omega)
  refine congrArg x (funext fun a => Fin.ext ?_)
  have hz : (z 0).val < 1 := (z 0).isLt
  fin_cases a
  · show Host.clampedStart _ _ h.1 start 0 + (z 0).val = k; rw [e0]; omega
  · show Host.clampedStart _ _ h.1 start 1 + (z 1).val = (z 1).val; rw [e1]; omega

theorem dyn1 {α : Type} (x : S128.Idx → α) (start : Fin 1 → Int) (k : ℕ) (hk : k < 128) (h0 : start 0 = k)
    (h : S128.Slices (fun _ => 0) S1) (z : S1.Idx) :
    Host.dynamicSlice S1 x start h z = x (ix1 ⟨k, hk⟩) := by
  rw [Host.dynamicSlice_apply]
  have e0 := Host.clampedStart_of_le h.1 start 0 k h0 (show k + 1 ≤ 128 by omega)
  refine congrArg x (funext fun a => Fin.ext ?_)
  have hz : (z 0).val < 1 := (z 0).isLt
  fin_cases a
  show Host.clampedStart _ _ h.1 start 0 + (z 0).val = k; rw [e0]; omega

theorem dus3 {α : Type} (x : S2x128x14336.Idx → α) (v : S2x1x14336.Idx → α) (start : Fin 3 → Int) (k : ℕ) (hk : k < 128) (h0 : start 0 = (0 : ℕ)) (h1 : start 1 = k) (h2 : start 2 = (0 : ℕ))
    (h : S2x128x14336.Slices (fun _ => 0) S2x1x14336) (z : S2x128x14336.Idx) :
    Host.dynamicUpdateSlice x v start h z = if (z 1).val = k then v (ix3 (z 0) 0 (z 2)) else x z := by
  rw [Host.dynamicUpdateSlice_apply]
  have e0 := Host.clampedStart_of_le h.1 start 0 0 h0 (show 0 + 2 ≤ 2 by omega)
  have e1 := Host.clampedStart_of_le h.1 start 1 k h1 (show k + 1 ≤ 128 by omega)
  have e2 := Host.clampedStart_of_le h.1 start 2 0 h2 (show 0 + 14336 ≤ 14336 by omega)
  have b0 : (z 0).val < 2 := (z 0).isLt
  have b2 : (z 2).val < 14336 := (z 2).isLt
  by_cases hz : (z 1).val = k
  · rw [if_pos hz, dif_pos]
    · refine congrArg v (funext fun a => Fin.ext ?_)
      fin_cases a
      · show (z 0).val - Host.clampedStart _ _ h.1 start 0 = (z 0).val; rw [e0]; omega
      · show (z 1).val - Host.clampedStart _ _ h.1 start 1 = 0; rw [e1]; omega
      · show (z 2).val - Host.clampedStart _ _ h.1 start 2 = (z 2).val; rw [e2]; omega
    · intro a
      fin_cases a
      · show Host.clampedStart _ _ h.1 start 0 ≤ (z 0).val ∧ (z 0).val < Host.clampedStart _ _ h.1 start 0 + 2; rw [e0]; omega
      · show Host.clampedStart _ _ h.1 start 1 ≤ (z 1).val ∧ (z 1).val < Host.clampedStart _ _ h.1 start 1 + 1; rw [e1]; omega
      · show Host.clampedStart _ _ h.1 start 2 ≤ (z 2).val ∧ (z 2).val < Host.clampedStart _ _ h.1 start 2 + 14336; rw [e2]; omega
  · rw [if_neg hz, dif_neg]
    intro hin
    have : Host.clampedStart _ _ h.1 start 1 ≤ (z 1).val ∧ (z 1).val < Host.clampedStart _ _ h.1 start 1 + 1 := hin 1
    rw [e1] at this
    omega

/-! ## One trip of the loop -/

/-- The slice of the weights at trip `k`. -/
theorem v31_eq (V : VAL) (k : ℕ) (hk : k < 128) (h3 : g3 V = fun _ => BitVec.ofNat 32 k) (z : S2x1x14336.Idx) :
    (res_main_while0b_v31 V : S2x1x14336.Idx → Ideal .f32) z = g4 V (ix3 (z 0) ⟨k, hk⟩ (z 2)) := by
  unfold res_main_while0b_v31
  refine dyn3 _ _ k hk ?_ ?_ ?_ _ z
  · rfl
  rotate_left
  · rfl
  refine (congrArg (fun X : S_.Idx → BitVec 32 => (X (Shape.Idx.first h_S_)).toInt) (wrap (g3 V) k hk h3)).trans (wrapInt k hk)

/-- The codes of trip `k`. -/
theorem v36_eq (V : VAL) (k : ℕ) (hk : k < 128) (h3 : g3 V = fun _ => BitVec.ofNat 32 k) (z : S2x1x14336.Idx) :
    (res_main_while0b_v36 V : S2x1x14336.Idx → BitVec 8) z = c8 (Ec (g0 V z) (g4 V (ix3 (z 0) ⟨k, hk⟩ (z 2)))) := by
  rw [← v31_eq V k hk h3]
  rfl

theorem cast128 {α : Type} (Y : S1x128.Idx → α) (h : S1x128.ShapeCasts S128) (z : S128.Idx) : shapeCast S128 Y h z = Y (ix2 0 (z 0)) := by
  pointwise

theorem cast1 {α : Type} (Y : S1.Idx → α) (h : S1.ShapeCasts S_) (z : S_.Idx) : shapeCast S_ Y h z = Y (ix1 0) := by
  pointwise

/-- The row of the triangle at trip `k`. -/
theorem v40_eq (V : VAL) (k : ℕ) (hk : k < 128) (h3 : g3 V = fun _ => BitVec.ofNat 32 k) (z : S128.Idx) :
    (res_main_while0b_v40 V : S128.Idx → Ideal .f32) z = g1 V (ix2 ⟨k, hk⟩ (z 0)) := by
  unfold res_main_while0b_v40
  refine (cast128 _ _ z).trans ((dyn2 _ _ k hk ?_ ?_ _ _).trans ?_)
  · refine (congrArg (fun X : S_.Idx → BitVec 32 => (X (Shape.Idx.first h_S_)).toInt) (wrap (g3 V) k hk h3)).trans (wrapInt k hk)
  · rfl
  · rfl

theorem divs (A B C : FVec Ideal S2x1x14336 .f32) (X : FVec Ideal S_ .f32) (d : Ideal .f32) (hX : ∀ y, X y = d) (h) (z : S2x1x14336.Idx) :
    Host.divf (subf A (mulf B C)) (broadcastInDim S2x1x14336 ![] h X) z = Ideal.div (A z - B z * C z) d := by
  show Ideal.div (A z - B z * C z) (X _) = _
  rw [hX]

/-- The errors of trip `k`. -/
theorem v44_eq (V : VAL) (k : ℕ) (hk : k < 128) (h3 : g3 V = fun _ => BitVec.ofNat 32 k) (z : S2x1x14336.Idx) :
    (res_main_while0b_v44 V : S2x1x14336.Idx → Ideal .f32) z = Ew (g0 V z) (g4 V (ix3 (z 0) ⟨k, hk⟩ (z 2))) (g1 V (ix2 ⟨k, hk⟩ ⟨k, hk⟩)) := by
  unfold res_main_while0b_v44
  refine (divs _ _ _ _ (g1 V (ix2 ⟨k, hk⟩ ⟨k, hk⟩)) ?_ _ z).trans ?_
  · intro y
    refine (cast1 _ _ y).trans ((dyn1 _ _ k hk ?_ _ _).trans ?_)
    · refine (congrArg (fun X : S_.Idx → BitVec 32 => (X (Shape.Idx.first h_S_)).toInt) (wrap (g3 V) k hk h3)).trans (wrapInt k hk)
    · exact v40_eq V k hk h3 _
  · have e : (sitofp .f32 (extsi 32 (res_main_while0b_v36 V : S2x1x14336.Idx → BitVec 8) natLt_8_32) : FVec Ideal S2x1x14336 .f32) z
        = Ec (g0 V z) (g4 V (ix3 (z 0) ⟨k, hk⟩ (z 2))) :=
      (congrArg (fun x : BitVec 8 => (FloatOps.sitofp .f32 (BitVec.signExtend 32 x) : Ideal .f32)) (v36_eq V k hk h3 z)).trans (c8_f32 _ _)
    rw [v31_eq V k hk h3, e]
    rfl

/-- What the loop has done to the carried buffers after `k` trips, lane by lane. -/
structure Inv (S : S2x1x14336.Idx → Ideal .f32) (U : S128x128.Idx → Ideal .f32) (W : S2x128x14336.Idx → Ideal .f32) (k : ℕ) (V : VAL) : Prop where
  h0 : g0 V = S
  h1 : g1 V = U
  h3 : g3 V = fun _ => BitVec.ofNat 32 k
  h4 : ∀ z, g4 V z = P (S (ix3 (z 0) 0 (z 2))) (fun j => W (ix3 (z 0) ⟨j % 128, Nat.mod_lt _ (by norm_num)⟩ (z 2))) (ux U) k (z 1).val
  h5 : ∀ z, (z 1).val < k → g5 V z = c8 (cd (S (ix3 (z 0) 0 (z 2))) (fun j => W (ix3 (z 0) ⟨j % 128, Nat.mod_lt _ (by norm_num)⟩ (z 2))) (ux U) (z 1).val)
  h6 : ∀ z, (z 1).val < k → g6 V z = er (S (ix3 (z 0) 0 (z 2))) (fun j => W (ix3 (z 0) ⟨j % 128, Nat.mod_lt _ (by norm_num)⟩ (z 2))) (ux U) (z 1).val

theorem ux_eq (U : S128x128.Idx → Ideal .f32) (i j : Fin 128) : ux U i.val j.val = U (ix2 i j) := by
  unfold ux
  refine congrArg U (funext fun a => Fin.ext ?_)
  fin_cases a
  · exact Nat.mod_eq_of_lt i.isLt
  · exact Nat.mod_eq_of_lt j.isLt

theorem upds (A : FVec Ideal S2x128x14336 .f32) (E : FVec Ideal S2x1x14336 .f32) (R : FVec Ideal S128 .f32) (h h' h'') (z : S2x128x14336.Idx) :
    subf A (mulf (broadcastInDim S2x128x14336 ![0, 1, 2] h E) (broadcastInDim S2x128x14336 ![0, 1, 2] h' (broadcastInDim S1x128x1 ![1] h'' R))) z
      = upd (E (ix3 (z 0) 0 (z 2))) (R (ix1 (z 1))) (A z) := by
  pointwise
  rfl

/-- One trip keeps the invariant. -/
theorem Inv.step {S : S2x1x14336.Idx → Ideal .f32} {U : S128x128.Idx → Ideal .f32} {W : S2x128x14336.Idx → Ideal .f32} {k : ℕ} (hk : k < 128) {V : VAL}
    (H : Inv S U W k V) : Inv S U W (k + 1) (STEP V) where
  h0 := (STEP_main_v11_0 V).trans H.h0
  h1 := (STEP_main_v11_1 V).trans H.h1
  h3 := (STEP_main_v11_3 V).trans (by
    unfold step_main_v11_3
    show addi (g3 V) (constantI S_ 32 1#32) = _
    rw [H.h3]
    funext z
    show BitVec.ofNat 32 k + 1#32 = _
    rw [BitVec.ofNat_add])
  h4 := fun z => by
    refine (congrFun (STEP_main_v11_4 V) z).trans ?_
    unfold step_main_v11_4
    refine (upds _ _ _ _ _ _ z).trans ?_
    rw [v44_eq V k hk H.h3, v40_eq V k hk H.h3, H.h0, H.h1, H.h4]
    refine (congrArg (upd _ _) (H.h4 z)).trans ?_
    have e1 := ux_eq U ⟨k, hk⟩ ⟨k, hk⟩
    have e2 := ux_eq U ⟨k, hk⟩ (z 1)
    show _ = upd (Ew _ (P _ _ _ k k) (ux U k k)) (ux U k (z 1).val) _
    rw [← e1]
    exact congrArg (fun t => upd _ t _) e2.symm
  h5 := fun z hz => by
    refine (congrFun (STEP_main_v11_5 V) z).trans ?_
    unfold step_main_v11_5
    refine (dus3 _ _ _ k hk ?_ ?_ ?_ _ z).trans ?_
    · rfl
    · refine (congrArg (fun X : S_.Idx → BitVec 32 => (X (Shape.Idx.first h_S_)).toInt) (wrap (g3 V) k hk H.h3)).trans (wrapInt k hk)
    · rfl
    split
    · next h =>
      rw [v36_eq V k hk H.h3, H.h0, H.h4, h]
      rfl
    · next h => exact H.h5 z (by omega)
  h6 := fun z hz => by
    refine (congrFun (STEP_main_v11_6 V) z).trans ?_
    unfold step_main_v11_6
    refine (dus3 _ _ _ k hk ?_ ?_ ?_ _ z).trans ?_
    · rfl
    · refine (congrArg (fun X : S_.Idx → BitVec 32 => (X (Shape.Idx.first h_S_)).toInt) (wrap (g3 V) k hk H.h3)).trans (wrapInt k hk)
    · rfl
    split
    · next h =>
      have e1 := ux_eq U ⟨k, hk⟩ ⟨k, hk⟩
      rw [v44_eq V k hk H.h3, H.h0, H.h1, H.h4, h, ← e1]
      rfl
    · next h => exact H.h6 z (by omega)

/-- After every trip. -/
theorem Inv.iterate {S : S2x1x14336.Idx → Ideal .f32} {U : S128x128.Idx → Ideal .f32} {W : S2x128x14336.Idx → Ideal .f32} {V : VAL} (H : Inv S U W 0 V) :
    ∀ k, k ≤ 128 → Inv S U W k (STEP^[k] V)
  | 0, _ => H
  | k + 1, h => by
    rw [Function.iterate_succ_apply']
    exact (H.iterate k (by omega)).step (by omega)

end Cert.ReferenceIdeal.Hand
end
-- ==== Proof.Hand.RefScale.lean ====
/- The reference's scale is the scale of the lane. -/
module

public import proofs.«01_k».proof.Proof.Hand.RefVal

@[expose] public section

set_option maxRecDepth 8192
set_option maxHeartbeats 2000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.KernelIdeal.Hand (P er cd Ec Ew upd ux sc AM WL XU EG CG pk)

/-! ## The scale -/

/-- The largest absolute value among the entries up to `k` is at most `c` where each of them is. -/
theorem AM_le (W : ℕ → Ideal .f32) (c : EReal) : ∀ k : ℕ, (AM W k : EReal) ≤ c ↔ ∀ j ≤ k, (FloatOps.absf (W j) : EReal) ≤ c
  | 0 => ⟨fun h j hj => by obtain rfl : j = 0 := by omega
                           exact h, fun h => h 0 le_rfl⟩
  | k + 1 => by
    show max (AM W k : EReal) (FloatOps.absf (W (k + 1)) : EReal) ≤ c ↔ _
    rw [max_le_iff, AM_le W c k]
    refine ⟨fun h j hj => ?_, fun h => ⟨fun j hj => h j (by omega), h (k + 1) le_rfl⟩⟩
    rcases Nat.lt_or_ge j (k + 1) with h' | h'
    · exact h.1 j (by omega)
    · obtain rfl : j = k + 1 := by omega
      exact h.2

/-- A reduction by maximum over the columns, from minus infinity, is the largest entry. -/
theorem reduce_max (w : FVec Ideal S2x128x14336 .f32) (z : S2x14336.Idx) :
    Host.reduce FloatOps.maximumf (Host.absf w) (constant S_ .f32 0xFF800000#32) reducesTo_S2x128x14336_S2x14336_d1 h_S_ z
      = AM (fun j => w (ix3 (z 0) ⟨j % 128, Nat.mod_lt _ (by norm_num)⟩ (z 1))) 127 := by
  have hr : S2x128x14336.Reduces [1] S2x14336 := by decide
  rw [Host.reduce_eq_fold_single _ _ _ _ hr]
  refine eq_of_forall_ge_iff (α := EReal) fun c => ?_
  rw [AM_le]
  refine (Finset.fold_max_le (α := Fin 128) (β := EReal) (b := FloatOps.ofBits (F := Ideal) .f32 0xFF800000#32) c).trans ?_
  have hb : (FloatOps.ofBits (F := Ideal) .f32 0xFF800000#32 : EReal) = ⊥ := by
    show Ideal.ofBits .f32 0xFF800000#32 = ⊥
    simp [Ideal.ofBits, Ideal.ieee]
  have hx : ∀ k : Fin 128, (Host.absf w ∘ hr.lift z) k = FloatOps.absf (w (ix3 (z 0) k (z 1))) := fun k => by
    refine congrArg (fun i => FloatOps.absf (w i)) (funext fun a => Fin.ext ?_)
    fin_cases a <;> rfl
  constructor
  · intro h j hj
    have := h.2 ⟨j % 128, Nat.mod_lt _ (by norm_num)⟩ (Finset.mem_univ _)
    rw [hx] at this
    exact this
  · intro h
    refine ⟨by rw [hb]; exact bot_le, fun k _ => ?_⟩
    rw [hx]
    have := h k.val (by omega)
    simp only [Nat.mod_eq_of_lt k.isLt] at this
    exact this

/-- The largest absolute value of each lane, as the reference takes it. -/
def amT (w : FVec Ideal S2x128x14336 .f32) : FVec Ideal S2x1x14336 .f32 :=
  broadcastInDim S2x1x14336 ![0, 2] bcast_S2x14336_S2x1x14336_0_2
    (Host.reduce FloatOps.maximumf (Host.absf w) (constant S_ .f32 0xFF800000#32) reducesTo_S2x128x14336_S2x14336_d1 h_S_)

/-- The scale from it. -/
def scA (A : FVec Ideal S2x1x14336 .f32) : FVec Ideal S2x1x14336 .f32 :=
  select (cmpf .oeq A (broadcastInDim S2x1x14336 ![] bcast_S_S2x1x14336 (constant S_ .f32 0x00000000#32)))
    (broadcastInDim S2x1x14336 ![] bcast_S_S2x1x14336 (constant S_ .f32 0x3F800000#32))
    (Host.divf A (broadcastInDim S2x1x14336 ![] bcast_S_S2x1x14336 (constant S_ .f32 0x40E00000#32)))

/-- The reference's scale. -/
def scT (w : FVec Ideal S2x128x14336 .f32) : FVec Ideal S2x1x14336 .f32 := scA (amT w)

theorem scaleA (R : FVec Ideal S2x14336 .f32) (h) (z : S2x1x14336.Idx) :
    (broadcastInDim S2x1x14336 ![0, 2] h R : FVec Ideal S2x1x14336 .f32) z = R (ix2 (z 0) (z 2)) := by
  pointwise

/-- The scale at a lane, from the largest absolute value there. -/
theorem scA_apply (A : FVec Ideal S2x1x14336 .f32) (z : S2x1x14336.Idx) :
    scA A z = Scalar.select (FloatOps.cmpf .oeq (A z) (Scalar.ofBits .f32 0x00000000#32)) (Scalar.ofBits .f32 0x3F800000#32)
      (FloatOps.divf (A z) (Scalar.ofBits .f32 0x40E00000#32)) := rfl

/-- The largest absolute value at a lane. -/
theorem amT_apply (w : FVec Ideal S2x128x14336 .f32) (z : S2x1x14336.Idx) :
    amT w z = AM (WL w (z 0).val (z 2).val) 127 := by
  refine (scaleA _ bcast_S2x14336_S2x1x14336_0_2 z).trans ((reduce_max w (ix2 (z 0) (z 2))).trans ?_)
  refine congrArg (fun f => AM f 127) ?_
  funext j
  unfold WL
  refine congrArg w (funext fun a => Fin.ext ?_)
  have h0 : (z 0).val < 2 := (z 0).isLt
  have h2 : (z 2).val < 14336 := (z 2).isLt
  fin_cases a
  · exact (Nat.mod_eq_of_lt h0).symm
  · rfl
  · exact (Nat.mod_eq_of_lt h2).symm

/-- It is the scale of the lane. -/
theorem scT_apply (w : FVec Ideal S2x128x14336 .f32) (z : S2x1x14336.Idx) :
    scT w z = sc (WL w (z 0).val (z 2).val) := by
  unfold scT sc
  rw [scA_apply, amT_apply]

end Cert.ReferenceIdeal.Hand

end
-- ==== Proof.Hand.RefEnd.lean ====
/- What the reference's run leaves in its four results, at the extended reals. -/
module

public import proofs.«01_k».proof.Proof.Hand.RefScale

@[expose] public section

set_option maxRecDepth 8192
set_option maxHeartbeats 2000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.KernelIdeal.Hand (P er cd Ec Ew upd ux sc AM WL XU EG CG pk c8 c8_i32)

/-! ## The loop's entry -/

variable (m : (ℓ : Loc nD τ sig) → Buf (Elt Ideal) ℓ) (ρ : Dev nD → PrngReg)

/-- The weights on core `c`. -/
abbrev aw (c : Dev nD) : S2x128x14336.Idx → Ideal .f32 := m ((c.tc : Thread nD τ).loc main_arg0)
/-- The rows of the inverse on core `c`. -/
abbrev ah (c : Dev nD) : S128x4096.Idx → Ideal .f32 := m ((c.tc : Thread nD τ).loc main_arg1)

set_option maxRecDepth 100000 in
theorem s0_v2 (V : VAL) : after hostOps0 V (Proc.devRef .tc main_v2) = amT (V (Proc.devRef .tc main_arg0)) := by
  after_results
  rfl

set_option maxRecDepth 100000 in
theorem s0_v4 (V : VAL) : after hostOps0 V (Proc.devRef .tc main_v4)
    = cmpf .oeq (amT (V (Proc.devRef .tc main_arg0))) (broadcastInDim S2x1x14336 ![] bcast_S_S2x1x14336 (constant S_ .f32 0x00000000#32)) := by
  after_results
  rfl

set_option maxRecDepth 100000 in
theorem s0_v6 (V : VAL) : after hostOps0 V (Proc.devRef .tc main_v6)
    = Host.divf (amT (V (Proc.devRef .tc main_arg0))) (broadcastInDim S2x1x14336 ![] bcast_S_S2x1x14336 (constant S_ .f32 0x40E00000#32)) := by
  after_results
  rfl

set_option maxRecDepth 100000 in
theorem s0_cst (V : VAL) : after hostOps0 V (Proc.devRef .tc main_cst_2) = (constant S_ .f32 0x3F800000#32 : FVec Ideal S_ .f32) := by
  after_results

set_option maxRecDepth 100000 in
theorem s1_v7 (V : VAL) : after hostOps0_1 V (Proc.devRef .tc main_v7)
    = select (V (Proc.devRef .tc main_v4) : IVec S2x1x14336 1) (broadcastInDim S2x1x14336 ![] bcast_S_S2x1x14336 (V (Proc.devRef .tc main_cst_2) : FVec Ideal S_ .f32)) (V (Proc.devRef .tc main_v6) : FVec Ideal S2x1x14336 .f32) := by
  after_results
  rfl

set_option maxRecDepth 100000 in
theorem s2_v11_0 (V : VAL) : after hostOps0_2 V (Proc.devRef .tc main_v11_0) = V (Proc.devRef .tc main_v7) := by
  after_results
  rfl

theorem entry7 (c : Dev nD) : entryContents preI m c (Proc.devRef .tc main_v7) = scT (aw m c) := by
  simp only [entryContents, afterL_cons, afterL_nil]
  rw [after_of_writes_sub hostOps0_2 _ hostOps0_2_writes (by decide +kernel), s1_v7, s0_v4, s0_v6, s0_cst]
  rfl

theorem entry0 (c : Dev nD) : g0 (entryContents preI m c) = scT (aw m c) := by
  refine Eq.trans ?_ (entry7 m c)
  simp only [g0, entryContents, afterL_cons, afterL_nil]
  rw [s2_v11_0, after_of_writes_sub hostOps0_2 _ hostOps0_2_writes (by decide +kernel)]

theorem entry1 (c : Dev nD) : g1 (entryContents preI m c) = extractStridedSlice S128x128 ![0, 0] (ah m c) slices_S128x4096_S128x128_0_0 := by
  simp only [g1, entryContents, afterL_cons, afterL_nil]
  after_reads_simp
  rfl

theorem entry3 (c : Dev nD) : g3 (entryContents preI m c) = fun _ => BitVec.ofNat 32 0 := by
  simp only [g3, entryContents, afterL_cons, afterL_nil]
  after_reads_simp
  rfl

theorem entry4 (c : Dev nD) : g4 (entryContents preI m c) = aw m c := by
  simp only [g4, entryContents, afterL_cons, afterL_nil]
  after_reads_simp
  rfl

/-- Before the first trip. -/
theorem inv_entry (c : Dev nD) : Inv (scT (aw m c)) (extractStridedSlice S128x128 ![0, 0] (ah m c) slices_S128x4096_S128x128_0_0) (aw m c) 0 (entryContents preI m c) where
  h0 := entry0 m c
  h1 := entry1 m c
  h3 := entry3 m c
  h4 z := by
    rw [entry4]
    refine congrArg (aw m c) (funext fun a => Fin.ext ?_)
    have h1 : (z 1).val < 128 := (z 1).isLt
    fin_cases a
    · rfl
    · exact (Nat.mod_eq_of_lt h1).symm
    · rfl
  h5 z hz := absurd hz (Nat.not_lt_zero _)
  h6 z hz := absurd hz (Nat.not_lt_zero _)

/-! ## The results -/

/-- The contents after the loop. -/
abbrev X (c : Dev nD) : VAL := after condOps (atK m 128 c)

theorem X_inv (c : Dev nD) {b : Ref sig .tc} (hb : b ∈ carriedRefs) (hc : b ∉ condOps_W) :
    X m c (Proc.devRef .tc b) = STEP^[128] (entryContents preI m c) (Proc.devRef .tc b) := by
  rw [X, after_of_writes_sub condOps _ condOps_writes hc]
  exact atK_agree m c 128 b hb

theorem X_arg1 (c : Dev nD) : X m c (Proc.devRef .tc main_arg1) = ah m c := by
  rw [X, after_of_writes_sub condOps _ condOps_writes (by decide +kernel)]
  unfold atK
  rw [atTrip_keep _ c (by decide +kernel)]
  simp only [entryContents, afterL_cons, afterL_nil]
  rw [after_of_writes_sub hostOps0_2 _ hostOps0_2_writes (by decide +kernel), after_of_writes_sub hostOps0_1 _ hostOps0_1_writes (by decide +kernel),
    after_of_writes_sub hostOps0 _ hostOps0_writes (by decide +kernel)]

theorem lane_eq (w : S2x128x14336.Idx → Ideal .f32) (z : S2x128x14336.Idx) :
    (fun j => w (ix3 (z 0) ⟨j % 128, Nat.mod_lt _ (by norm_num)⟩ (z 2))) = WL w (z 0).val (z 2).val := by
  funext j
  unfold WL
  refine congrArg w (funext fun a => Fin.ext ?_)
  have h0 : (z 0).val < 2 := (z 0).isLt
  have h2 : (z 2).val < 14336 := (z 2).isLt
  fin_cases a
  · exact (Nat.mod_eq_of_lt h0).symm
  · rfl
  · exact (Nat.mod_eq_of_lt h2).symm

theorem tri_eq (h : S128x4096.Idx → Ideal .f32) : ux (extractStridedSlice S128x128 ![0, 0] h slices_S128x4096_S128x128_0_0) = ux (XU h) := by
  funext i j
  unfold ux XU
  show h _ = h _
  refine congrArg h (funext fun a => Fin.ext ?_)
  have hi : i % 128 < 128 := Nat.mod_lt _ (by norm_num)
  have hj : j % 128 < 128 := Nat.mod_lt _ (by norm_num)
  fin_cases a
  · show 0 + i % 128 = i % 128 % 128
    omega
  · show 0 + j % 128 = j % 128 % 4096
    omega

/-- The errors after the loop. -/
theorem X_err (c : Dev nD) : g6 (X m c) = fun z => EG (aw m c) (ah m c) (z 0).val (z 2).val (z 1).val := by
  funext z
  have H := (inv_entry m c).iterate 128 le_rfl
  refine (congrFun (X_inv m c (b := main_v11_6) (by decide) (by decide +kernel)) z).trans ((H.h6 z (z 1).isLt).trans ?_)
  rw [lane_eq, tri_eq, scT_apply]
  rfl

/-- The codes after the loop. -/
theorem X_code (c : Dev nD) : g5 (X m c) = fun z => c8 (CG (aw m c) (ah m c) (z 0).val (z 2).val (z 1).val) := by
  funext z
  have H := (inv_entry m c).iterate 128 le_rfl
  refine (congrFun (X_inv m c (b := main_v11_5) (by decide) (by decide +kernel)) z).trans ((H.h5 z (z 1).isLt).trans ?_)
  rw [lane_eq, tri_eq, scT_apply]
  rfl

/-- The errors at the end. -/
theorem fin_err (c : Dev nD) : finalContents condOps preI bodyI postI 128 m c (Proc.devRef .tc main_v11_6)
    = fun z : S2x128x14336.Idx => EG (aw m c) (ah m c) (z 0).val (z 2).val (z 1).val := by
  show afterL postI _ _ = _
  simp only [afterL_cons, afterL_nil]
  rw [after_of_writes_sub hostOps0_3 _ hostOps0_3_writes (by decide +kernel)]
  exact X_err m c

/-- The scales at the end. -/
theorem fin_scale (c : Dev nD) : finalContents condOps preI bodyI postI 128 m c (Proc.devRef .tc main_v7)
    = fun z : S2x1x14336.Idx => sc (WL (aw m c) (z 0).val (z 2).val) := by
  rw [final_keep m c (by decide +kernel) (by decide +kernel), entry7]
  exact funext (scT_apply _)

/-- The two halves of a packed byte. -/
def pkT (C : IVec S2x128x14336 8) : IVec S2x64x14336 8 :=
  trunci 8 (ori (andi (Host.slice S2x64x14336 ![0, 0, 0] ![1, 2, 1] (extsi 32 C natLt_8_32) slicesBy_S2x128x14336_S2x64x14336_0s1_0s2_0s1)
      (broadcastInDim S2x64x14336 ![] bcast_S_S2x64x14336 (constantI S_ 32 15#32)))
    (Host.shli (andi (Host.slice S2x64x14336 ![0, 1, 0] ![1, 2, 1] (extsi 32 C natLt_8_32) slicesBy_S2x128x14336_S2x64x14336_0s1_1s2_0s1)
      (broadcastInDim S2x64x14336 ![] bcast_S_S2x64x14336 (constantI S_ 32 15#32)))
      (broadcastInDim S2x64x14336 ![] bcast_S_S2x64x14336 (constantI S_ 32 4#32)))) natLt_8_32

/-- The columns to the right of the block. -/
def rowsT (h : FVec Ideal S128x4096 .f32) : FVec Ideal S128x3968 .f32 := extractStridedSlice S128x3968 ![0, 128] h slices_S128x4096_S128x3968_0_128

set_option maxRecDepth 100000 in
theorem post_packed (V : VAL) : after hostOps0_3 V (Proc.devRef .tc main_v25) = pkT (g5 V) := by
  after_reads_simp
  rfl

set_option maxRecDepth 100000 in
theorem post_update (V : VAL) : after hostOps0_3 V (Proc.devRef .tc main_v14)
    = transpose S2x3968x14336 [1, 0, 2] (Host.dotGeneral dot_S128x3968_S2x128x14336_S3968x2x14336_0_1_1_02_n_n (some .fp32)
        (rowsT (V (Proc.devRef .tc main_arg1))) (g6 V : FVec Ideal S2x128x14336 .f32))
      transposes_S3968x2x14336_S2x3968x14336_1_0_2 := by
  after_reads_simp
  rfl

theorem pkT_apply (C : IVec S2x128x14336 8) (z : S2x64x14336.Idx) :
    pkT C z = BitVec.setWidth 8 (IntOp.ori
      (IntOp.andi (BitVec.signExtend 32 (C (ix3 (z 0) ⟨2 * (z 1).val, by have : (z 1).val < 64 := (z 1).isLt; omega⟩ (z 2)))) 15#32)
      (IntOp.shli .host (IntOp.andi (BitVec.signExtend 32 (C (ix3 (z 0) ⟨2 * (z 1).val + 1, by have : (z 1).val < 64 := (z 1).isLt; omega⟩ (z 2)))) 15#32) 4#32)) := by
  have h1 : (z 1).val < 64 := (z 1).isLt
  have e0 : ∀ h, Host.slice S2x64x14336 ![0, 0, 0] ![1, 2, 1] (extsi 32 C natLt_8_32) h z
      = BitVec.signExtend 32 (C (ix3 (z 0) ⟨2 * (z 1).val, by omega⟩ (z 2))) := fun h => by
    refine congrArg (fun i => BitVec.signExtend 32 (C i)) (funext fun a => Fin.ext ?_)
    fin_cases a
    · exact (show 0 + 1 * (z 0).val = (z 0).val by omega)
    · exact (show 0 + 2 * (z 1).val = 2 * (z 1).val by omega)
    · exact (show 0 + 1 * (z 2).val = (z 2).val by omega)
  have e1 : ∀ h, Host.slice S2x64x14336 ![0, 1, 0] ![1, 2, 1] (extsi 32 C natLt_8_32) h z
      = BitVec.signExtend 32 (C (ix3 (z 0) ⟨2 * (z 1).val + 1, by omega⟩ (z 2))) := fun h => by
    refine congrArg (fun i => BitVec.signExtend 32 (C i)) (funext fun a => Fin.ext ?_)
    fin_cases a
    · exact (show 0 + 1 * (z 0).val = (z 0).val by omega)
    · exact (show 1 + 2 * (z 1).val = 2 * (z 1).val + 1 by omega)
    · exact (show 0 + 1 * (z 2).val = (z 2).val by omega)
  show BitVec.setWidth 8 (IntOp.ori (IntOp.andi (Host.slice S2x64x14336 ![0, 0, 0] ![1, 2, 1] (extsi 32 C natLt_8_32) _ z) 15#32)
    (IntOp.shli .host (IntOp.andi (Host.slice S2x64x14336 ![0, 1, 0] ![1, 2, 1] (extsi 32 C natLt_8_32) _ z) 15#32) 4#32)) = _
  rw [e0, e1]

/-- The packed codes at the end. -/
theorem fin_packed (c : Dev nD) : finalContents condOps preI bodyI postI 128 m c (Proc.devRef .tc main_v25)
    = fun z : S2x64x14336.Idx => BitVec.setWidth 8 (pk (CG (aw m c) (ah m c) (z 0).val (z 2).val (2 * (z 1).val)) (CG (aw m c) (ah m c) (z 0).val (z 2).val (2 * (z 1).val + 1))) := by
  show afterL postI _ _ = _
  simp only [afterL_cons, afterL_nil]
  rw [post_packed]
  funext z
  rw [pkT_apply]
  have e := X_code m c
  rw [show g5 (after condOps (atTrip condOps bodyI (entryContents preI m) 128 c)) = _ from e]
  have hc : ∀ j, BitVec.signExtend 32 (c8 (CG (aw m c) (ah m c) (z 0).val (z 2).val j)) = FloatOps.fptosi 32 (CG (aw m c) (ah m c) (z 0).val (z 2).val j) := fun j => c8_i32 _ _
  show BitVec.setWidth 8 (IntOp.ori (IntOp.andi (BitVec.signExtend 32 (c8 (CG (aw m c) (ah m c) (z 0).val (z 2).val (2 * (z 1).val)))) 15#32)
    (IntOp.shli .host (IntOp.andi (BitVec.signExtend 32 (c8 (CG (aw m c) (ah m c) (z 0).val (z 2).val (2 * (z 1).val + 1)))) 15#32) 4#32)) = _
  rw [hc, hc]
  rfl

theorem dot_apply (l : FVec Ideal S128x3968 .f32) (r : FVec Ideal S2x128x14336 .f32) (h) (z : S2x3968x14336.Idx) :
    transpose S2x3968x14336 [1, 0, 2] (Host.dotGeneral dot_S128x3968_S2x128x14336_S3968x2x14336_0_1_1_02_n_n (some .fp32) l r) h z
      = (∑ k : Fin 128, (l (ix2 k (z 1)) : EReal) * r (ix3 (z 0) k (z 2)) : EReal) := by
  pointwise

theorem rows_apply (h : FVec Ideal S128x4096 .f32) (k : Fin 128) (p : Fin 3968) :
    rowsT h (ix2 k p) = h (ix2 k ⟨128 + p.val, by omega⟩) := by
  refine congrArg h (funext fun a => Fin.ext ?_)
  fin_cases a
  · show 0 + k.val = k.val
    omega
  · rfl

/-- The update at the end. -/
theorem fin_update (c : Dev nD) : finalContents condOps preI bodyI postI 128 m c (Proc.devRef .tc main_v14)
    = fun z : S2x3968x14336.Idx => (∑ k : Fin 128, (ah m c (ix2 k ⟨128 + (z 1).val, by have : (z 1).val < 3968 := (z 1).isLt; omega⟩) : EReal)
        * EG (aw m c) (ah m c) (z 0).val (z 2).val k.val : EReal) := by
  show afterL postI _ _ = _
  simp only [afterL_cons, afterL_nil]
  rw [post_update]
  funext z
  rw [dot_apply]
  refine Finset.sum_congr rfl fun k _ => ?_
  have e := congrFun (X_err m c) (ix3 (z 0) k (z 2))
  have f := (congrFun (congrArg rowsT (X_arg1 m c)) (ix2 k (z 1))).trans (rows_apply (ah m c) k (z 1))
  exact congrArg₂ (fun a b : EReal => a * b) f e

/-- THE RUN WITH ITS VALUES. -/
theorem run_value : θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v14) = (fun z : S2x3968x14336.Idx => (∑ k : Fin 128, (ah m c (ix2 k ⟨128 + (z 1).val, by have : (z 1).val < 3968 := (z 1).isLt; omega⟩) : EReal)
        * EG (aw m c) (ah m c) (z 0).val (z 2).val k.val : EReal))
      ∧ r.2.mem ((c.tc : Thread nD τ).loc main_v11_6) = (fun z : S2x128x14336.Idx => EG (aw m c) (ah m c) (z 0).val (z 2).val (z 1).val)
      ∧ r.2.mem ((c.tc : Thread nD τ).loc main_v25) = (fun z : S2x64x14336.Idx => BitVec.setWidth 8 (pk (CG (aw m c) (ah m c) (z 0).val (z 2).val (2 * (z 1).val)) (CG (aw m c) (ah m c) (z 0).val (z 2).val (2 * (z 1).val + 1))))
      ∧ r.2.mem ((c.tc : Thread nD τ).loc main_v7) = (fun z : S2x1x14336.Idx => sc (WL (aw m c) (z 0).val (z 2).val))) :=
  (θ_run defs _ _).mono (fun r h c =>
    ⟨⟨(h c main_arg0 rfl).trans (final_arg m c (by decide +kernel) (by decide +kernel) (by decide +kernel) (by decide +kernel) (by decide +kernel)),
      (h c main_arg1 rfl).trans (final_arg m c (by decide +kernel) (by decide +kernel) (by decide +kernel) (by decide +kernel) (by decide +kernel))⟩,
     (h c main_v14 rfl).trans (fin_update m c), (h c main_v11_6 rfl).trans (fin_err m c), (h c main_v25 rfl).trans (fin_packed m c),
     (h c main_v7 rfl).trans (fin_scale m c)⟩) (run_fold m ρ)

end Cert.ReferenceIdeal.Hand

end
-- ==== Proof.Hand.Fin.lean ====
/- With finite inputs and nonzero pivots every error is finite, and the update's parts add up to the product. -/
module

public import proofs.«01_k».proof.Proof.Hand.RefVal

@[expose] public section

set_option maxRecDepth 8192
set_option maxHeartbeats 2000000

noncomputable section

namespace Cert.KernelIdeal.Hand

open Cert.KernelIdeal Cert.KernelIdeal.Gen
open Idealize.ShloMosaic Idealize.ShloMosaic.TcCoe Idealize.ShloMosaic.Tactic

/-! ## Finite extended reals -/

/-- An extended real that is a real. -/
def Fn (x : EReal) : Prop := ∃ r : ℝ, x = (r : EReal)

theorem Fn.of_abs {x : EReal} (h : max x (-x) < ⊤) : Fn x := by
  induction x with
  | bot => simp at h
  | top => simp at h
  | coe r => exact ⟨r, rfl⟩

theorem Fn.sub {x y : EReal} (hx : Fn x) (hy : Fn y) : Fn (x - y) := by
  obtain ⟨a, rfl⟩ := hx; obtain ⟨b, rfl⟩ := hy; exact ⟨a - b, (EReal.coe_sub a b).symm⟩

theorem Fn.mul {x y : EReal} (hx : Fn x) (hy : Fn y) : Fn (x * y) := by
  obtain ⟨a, rfl⟩ := hx; obtain ⟨b, rfl⟩ := hy; exact ⟨a * b, (EReal.coe_mul a b).symm⟩

theorem Fn.abs {x : EReal} (hx : Fn x) : Fn (max x (-x)) := by
  rcases max_choice x (-x) with h | h <;> rw [h]
  · exact hx
  · obtain ⟨a, rfl⟩ := hx; exact ⟨-a, (EReal.coe_neg a).symm⟩

theorem Fn.max {x y : EReal} (hx : Fn x) (hy : Fn y) : Fn (max x y) := by
  rcases max_choice x y with h | h <;> rw [h] <;> assumption

theorem Fn.div {x y : EReal} (hx : Fn x) (hy : Fn y) (h0 : y ≠ 0) : Fn (Ideal.div x y) := by
  unfold Ideal.div
  rw [if_neg h0]
  refine hx.mul ?_
  obtain ⟨b, rfl⟩ := hy
  exact ⟨b⁻¹, (EReal.coe_inv b).symm⟩

theorem Fn.between {x : EReal} {a b : ℝ} (h1 : (a : EReal) ≤ x) (h2 : x ≤ (b : EReal)) : Fn x := by
  induction x with
  | bot => exact absurd h1 (by simp)
  | top => exact absurd h2 (by simp)
  | coe r => exact ⟨r, rfl⟩

theorem Fn.sub_self {x : EReal} (hx : Fn x) : x - x = 0 := by
  obtain ⟨a, rfl⟩ := hx
  rw [← EReal.coe_sub, _root_.sub_self]
  rfl

/-! ## The constants -/

theorem lit1 : Ideal.ofBits .f32 0x3F800000#32 = ((1 : ℝ) : EReal) := by
  simp [Ideal.ofBits, Ideal.ieee]
  rw [← EReal.coe_mul]
  norm_num

theorem litInf : Ideal.ofBits .f32 0x7F800000#32 = ⊤ := by
  simp [Ideal.ofBits, Ideal.ieee]

/-! ## The errors are finite -/

theorem AM_fin {W : ℕ → Ideal .f32} (h : ∀ j, Fn (W j)) : ∀ k, Fn (AM W k)
  | 0 => (h 0).abs
  | k + 1 => (AM_fin h k).max (h (k + 1)).abs

theorem sc_fin {W : ℕ → Ideal .f32} (h : ∀ j, Fn (W j)) : Fn (sc W) := by
  have hA := AM_fin h 127
  unfold sc Scalar.select
  split
  · exact ⟨1, lit1⟩
  · refine hA.div (y := Ideal.ofBits .f32 0x40E00000#32) ⟨7, lit7⟩ ?_
    rw [lit7]
    exact_mod_cast (by norm_num : (7 : ℝ) ≠ 0)

theorem Ec_fin (s w : Ideal .f32) : Fn (Ec s w) := by
  refine Fn.between (a := -7) (b := 7) ?_ ?_
  · show ((-7 : ℝ) : EReal) ≤ min (Ideal.ofBits .f32 0x40E00000#32) (max (Ideal.ofBits .f32 0xC0E00000#32) _)
    rw [lit7, litm7]
    exact le_min (by exact_mod_cast (by norm_num : (-7 : ℝ) ≤ 7)) (le_max_left _ _)
  · show min (Ideal.ofBits .f32 0x40E00000#32) _ ≤ ((7 : ℝ) : EReal)
    rw [lit7]
    exact min_le_left _ _

theorem Ew_fin {s w d : Ideal .f32} (hs : Fn s) (hw : Fn w) (hd : Fn d) (h0 : (d : EReal) ≠ 0) : Fn (Ew s w d) :=
  (hw.sub ((Ec_fin s w).mul hs)).div hd h0

theorem P_fin {s : Ideal .f32} {W : ℕ → Ideal .f32} {u : ℕ → ℕ → Ideal .f32} (hs : Fn s) (hW : ∀ j, Fn (W j)) (hu : ∀ i j, Fn (u i j))
    (h0 : ∀ i, (u i i : EReal) ≠ 0) : ∀ k j, Fn (P s W u k j)
  | 0, j => hW j
  | k + 1, j => (P_fin hs hW hu h0 k j).sub ((Ew_fin hs (P_fin hs hW hu h0 k k) (hu k k) (h0 k)).mul (hu k j))

theorem er_fin {s : Ideal .f32} {W : ℕ → Ideal .f32} {u : ℕ → ℕ → Ideal .f32} (hs : Fn s) (hW : ∀ j, Fn (W j)) (hu : ∀ i j, Fn (u i j))
    (h0 : ∀ i, (u i i : EReal) ≠ 0) (k : ℕ) : Fn (er s W u k) :=
  Ew_fin hs (P_fin hs hW hu h0 k k) (hu k k) (h0 k)

/-- Every error is finite where the inputs are and no pivot is zero. -/
theorem EG_fin {w : S2x128x14336.Idx → Ideal .f32} {h : S128x4096.Idx → Ideal .f32} (hw : ∀ z, Fn (w z)) (hh : ∀ z, Fn (h z))
    (h0 : ∀ i, (ux (XU h) i i : EReal) ≠ 0) (b n j : ℕ) : Fn (EG w h b n j) :=
  have hW : ∀ j, Fn (WL w b n j) := fun j => hw _
  have hU : ∀ i j, Fn (ux (XU h) i j) := fun i j => hh _
  er_fin (sc_fin hW) hW hU h0 j

/-! ## The parts -/

theorem prt_hi (x : Ideal .f32) : (prt 0 x : EReal) = x := rfl

theorem prt_lo {x : Ideal .f32} (hx : Fn x) {q : ℕ} (hq : q ≠ 0) : (prt q x : EReal) = 0 := by
  unfold prt
  rw [if_neg hq]
  have h : (r1S x : EReal) = 0 := hx.sub_self
  have hm : (miS x : EReal) = 0 := h
  split
  · exact hm
  · show ((r1S x : EReal) - (miS x : EReal) : EReal) = 0
    rw [h, hm]
    simp

/-- One term of the product over the parts: only the leading parts have one that is not zero. -/
theorem term_eq {h : S128x4096.Idx → Ideal .f32} (hh : ∀ z, Fn (h z)) {e : ℕ → ℕ → Ideal .f32} (he : ∀ n j, Fn (e n j)) (a t : ℕ) (r : Fin 496) (l : Fin 256) (k : Fin 768) :
    (LT (US h) a (ix2 r k) : EReal) * (RT e t (ix2 k l) : EReal)
      = if 512 ≤ k.val ∧ k.val < 640 then (h (ix2 ⟨k.val % 128, Nat.mod_lt _ (by norm_num)⟩ ⟨(128 + (496 * a + r.val)) % 4096, Nat.mod_lt _ (by norm_num)⟩) : EReal)
          * (e (256 * t + l.val) (k.val % 128) : EReal) else 0 := by
  have hk := k.isLt
  show (US h (if k.val < 256 then 1 else 0) (496 * a + r.val) (k.val % 256) : EReal) * (prt (rq (k.val / 128)) (e (256 * t + l.val) (k.val % 128)) : EReal) = _
  by_cases hc : 512 ≤ k.val ∧ k.val < 640
  · rw [if_pos hc, if_neg (by omega), show rq (k.val / 128) = 0 by unfold rq; rw [if_neg (by omega), if_neg (by omega), if_neg (by omega)]]
    unfold US
    rw [if_pos (by omega)]
    refine congrArg (fun a : EReal => a * (e (256 * t + l.val) (k.val % 128) : EReal)) (congrArg h (funext fun d => Fin.ext ?_))
    fin_cases d
    · exact (show k.val % 256 % 128 = k.val % 128 by omega)
    · rfl
  · rw [if_neg hc]
    by_cases hq : rq (k.val / 128) = 0
    · have hq' : k.val / 128 = 1 ∨ k.val / 128 = 4 ∨ k.val / 128 = 5 := by
        unfold rq at hq
        split at hq
        · omega
        · split at hq
          · omega
          · split at hq <;> omega
      have : (US h (if k.val < 256 then 1 else 0) (496 * a + r.val) (k.val % 256) : EReal) = 0 := by
        unfold US
        refine prt_lo (hh _) ?_
        rw [if_neg (by omega)]
        by_cases h2 : k.val < 256 <;> simp [h2]
      rw [this, zero_mul]
    · rw [prt_lo (he _ _) hq, mul_zero]

/-- The product over the parts is the product of the numbers. -/
theorem RG_eq {w : S2x128x14336.Idx → Ideal .f32} {h : S128x4096.Idx → Ideal .f32} (hh : ∀ z, Fn (h z)) (q p n : ℕ)
    (he : ∀ n j, Fn (EN (XU h) (XW w q) n j)) :
    (RG w h q p n : EReal) = ∑ k : Fin 128, (h (ix2 k ⟨(128 + p) % 4096, Nat.mod_lt _ (by norm_num)⟩) : EReal) * (EN (XU h) (XW w q) n k.val : EReal) := by
  have hp : 496 * (p / 496) + p % 496 = p := Nat.div_add_mod p 496
  have hn : 256 * (n / 256) + n % 256 = n := Nat.div_add_mod n 256
  have hm : (RG w h q p n : EReal) = ∑ k : Fin 768, (LT (US h) (p / 496) (ix2 ⟨p % 496, Nat.mod_lt _ (by norm_num)⟩ k) : EReal)
      * (RT (EN (XU h) (XW w q)) (n / 256) (ix2 k ⟨n % 256, Nat.mod_lt _ (by norm_num)⟩) : EReal) := by
    unfold RG
    pointwise
  rw [hm, Finset.sum_congr rfl fun k _ => term_eq hh he _ _ _ _ k]
  simp only [hp, hn]
  rw [Fin.sum_univ_eq_sum_range (fun k => if 512 ≤ k ∧ k < 640 then (h (ix2 ⟨k % 128, Nat.mod_lt _ (by norm_num)⟩ ⟨(128 + p) % 4096, Nat.mod_lt _ (by norm_num)⟩) : EReal)
    * (EN (XU h) (XW w q) n (k % 128) : EReal) else 0) 768, show 768 = 512 + (128 + 128) from rfl, Finset.sum_range_add, Finset.sum_range_add,
    Finset.sum_eq_zero fun k hk => if_neg (by have := Finset.mem_range.1 hk; omega), zero_add]
  rw [Finset.sum_eq_zero (s := Finset.range 128) (f := fun k => if 512 ≤ 512 + (128 + k) ∧ 512 + (128 + k) < 640 then _ else _) fun k hk => if_neg (by omega), add_zero,
    ← Fin.sum_univ_eq_sum_range (fun k => if 512 ≤ 512 + k ∧ 512 + k < 640 then (h (ix2 ⟨(512 + k) % 128, Nat.mod_lt _ (by norm_num)⟩ ⟨(128 + p) % 4096, Nat.mod_lt _ (by norm_num)⟩) : EReal)
    * (EN (XU h) (XW w q) n ((512 + k) % 128) : EReal) else 0) 128]
  refine Finset.sum_congr rfl fun k _ => ?_
  have hk := k.isLt
  have hk' : (512 + k.val) % 128 = k.val := by omega
  rw [if_pos (by omega)]
  simp only [hk']

end Cert.KernelIdeal.Hand

end
-- ==== Proof.Hand.Pre.lean ====
/- The precondition read back: finite weights, finite rows of the inverse, no zero on its diagonal. -/
module

public import proofs.«01_k».proof.Pre_finite_nonzero_pivots
public import proofs.«01_k».proof.Proof.Hand.Fin
public import Idealize.ShloMosaic.Lib.ReduceAll

@[expose] public section

set_option maxRecDepth 8192
set_option maxHeartbeats 2000000

noncomputable section

namespace Cert.Pre_finite_nonzero_pivots

open Idealize.ShloMosaic
open Cert.KernelIdeal.Hand (Fn ux XU)

/-- The shape relations the precondition's operations take. -/
instance facts : Facts where
  bcast_S_S2x128x14336 := by decide
  reducesTo_S2x128x14336_S_d0_1_2 := by decide
  h_S_ := by decide
  bcast_S_S128x4096 := by decide
  reducesTo_S128x4096_S_d0_1 := by decide
  slices_S128x4096_S128x128_0_0 := by decide
  bcast_S_S128x128 := by decide
  reducesTo_S128x128_S_d0_1 := by decide

/-- A comparison of an absolute value with infinity that came out one: the value is a real. -/
theorem fn_of_lt {x : EReal} (h : Ideal.cmp .olt (max x (-x)) (Ideal.ofBits .f32 0x7F800000#32) = 1#1) : Fn x := by
  refine Fn.of_abs ?_
  rw [Cert.KernelIdeal.Hand.litInf] at h
  by_contra hn
  have : Ideal.cmp .olt (max x (-x)) ⊤ = 0#1 := by
    show BitVec.ofBool (decide (max x (-x) < ⊤)) = 0#1
    rw [decide_eq_false hn]
    rfl
  rw [this] at h
  exact absurd h (by decide)

variable (w : FVec Ideal S2x128x14336 .f32) (h : FVec Ideal S128x4096 .f32)

/-- The weights are finite. -/
theorem w_fin (e : (fn w h).1 = fun _ => 1#1) (z : S2x128x14336.Idx) : Fn (w z) := by
  have : Subsingleton S_.Idx := ⟨fun a b => funext fun i => i.elim0⟩
  dsimp only [fn] at e
  exact fn_of_lt (Host.reduce_andi_all _ _ _ _ _ (congrFun e (fun i => i.elim0)) z)

/-- The rows of the inverse are finite. -/
theorem h_fin (e : (fn w h).2.1 = fun _ => 1#1) (z : S128x4096.Idx) : Fn (h z) := by
  have : Subsingleton S_.Idx := ⟨fun a b => funext fun i => i.elim0⟩
  dsimp only [fn] at e
  exact fn_of_lt (Host.reduce_andi_all _ _ _ _ _ (congrFun e (fun i => i.elim0)) z)

/-- No pivot is zero. -/
theorem piv_ne (e : (fn w h).2.2 = fun _ => 1#1) (i : ℕ) : (ux (XU h) i i : EReal) ≠ 0 := by
  have : Subsingleton S_.Idx := ⟨fun a b => funext fun i => i.elim0⟩
  dsimp only [fn] at e
  have hi : i % 128 < 128 := Nat.mod_lt _ (by norm_num)
  have k := Host.reduce_andi_all _ _ _ _ _ (congrFun e (fun i => i.elim0)) (ix2 ⟨i % 128, hi⟩ ⟨i % 128, hi⟩)
  rcases IntOp.ori_eq_one.1 k with k | k
  · exact absurd rfl (IntOp.cmpi_ne.1 k)
  · intro h0
    have hx : (extractStridedSlice S128x128 ![0, 0] h Facts.slices_S128x4096_S128x128_0_0 (ix2 ⟨i % 128, hi⟩ ⟨i % 128, hi⟩) : EReal) = 0 := by
      refine Eq.trans (congrArg h (funext fun a => Fin.ext ?_)) h0
      fin_cases a
      · exact (show 0 + i % 128 = i % 128 % 128 by omega)
      · exact (show 0 + i % 128 = i % 128 % 4096 by omega)
    have k' : Ideal.cmp .une (extractStridedSlice S128x128 ![0, 0] h Facts.slices_S128x4096_S128x128_0_0 (ix2 ⟨i % 128, hi⟩ ⟨i % 128, hi⟩) : EReal) (Ideal.ofBits .f32 0x00000000#32) = 1#1 := k
    rw [hx, Ideal.ofBits_zero_f32] at k'
    have : Ideal.cmp .une 0 0 = 0#1 := by
      show BitVec.ofBool (decide ((0 : EReal) ≠ 0)) = 0#1
      simp
    rw [this] at k'
    exact absurd k' (by decide)

end Cert.Pre_finite_nonzero_pivots

end
-- ==== Proof.Hand.On.lean ====
/- The mask of the results other than the update: its first array is zero everywhere. -/
module

public import proofs.«01_k».proof.On_all_but_the_update
public import Idealize.ShloMosaic.PureOps.Ideal

@[expose] public section

noncomputable section

namespace Cert.On_all_but_the_update

open Idealize.ShloMosaic

/-- The shape relations the mask's operations take. -/
instance facts : Facts where
  bcast_S_S2x3968x14336 := by decide
  bcast_S_S2x128x14336 := by decide
  bcast_S_S2x64x14336 := by decide
  bcast_S_S2x1x14336 := by decide

/-- The mask selects nothing of the update. -/
theorem update_off (w : FVec Ideal S2x128x14336 .f32) (h : FVec Ideal S128x4096 .f32) (i : S2x3968x14336.Idx) : (fn w h).1 i ≠ 1#1 :=
  fun e => absurd (show (0#1 : BitVec 1) = 1#1 from e) (by decide)

end Cert.On_all_but_the_update

end
-- ==== Proof.Hand.Value.lean ====
/- The two runs put together: where the inputs are finite and no pivot is zero, the four results are equal. -/
module

public import proofs.«01_k».proof.Proof.Hand.RefEnd
public import proofs.«01_k».proof.Proof.Hand.Fin

@[expose] public section

set_option maxRecDepth 8192
set_option maxHeartbeats 2000000

noncomputable section

namespace Cert.KernelIdeal.Hand

open Cert.KernelIdeal Cert.KernelIdeal.Gen
open Idealize.ShloMosaic Idealize.ShloMosaic.TcCoe Idealize.ShloMosaic.Tactic

/-- The update the kernel leaves is the sum over the columns of entry times error. -/
theorem R0_eq {w : S2x128x14336.Idx → Ideal .f32} {h : S128x4096.Idx → Ideal .f32} (hw : ∀ z, Fn (w z)) (hh : ∀ z, Fn (h z))
    (h0 : ∀ i, (ux (XU h) i i : EReal) ≠ 0) :
    R0 w h = fun z : S2x3968x14336.Idx => (∑ k : Fin 128, (h (ix2 k ⟨128 + (z 1).val, by have : (z 1).val < 3968 := (z 1).isLt; omega⟩) : EReal)
      * EG w h (z 0).val (z 2).val k.val : EReal) := by
  funext z
  have b0 : (z 0).val < 2 := (z 0).isLt
  have b1 : (z 1).val < 3968 := (z 1).isLt
  have b2 : (z 2).val < 14336 := (z 2).isLt
  have hE : ∀ n j, Fn (EN (XU h) (XW w (14 * (z 0).val + (z 2).val / 1024)) n j) := fun n j => by
    rw [EN_XW]; exact EG_fin hw hh h0 _ _ _
  refine (RG_eq hh _ _ _ hE).trans (Finset.sum_congr rfl fun k _ => ?_)
  rw [EN_XW]
  have e1 : (14 * (z 0).val + (z 2).val / 1024) / 14 = (z 0).val := by omega
  have e2 : 1024 * ((14 * (z 0).val + (z 2).val / 1024) % 14) + (z 2).val % 1024 % 1024 = (z 2).val := by omega
  rw [e1, e2]
  refine congrArg (fun a : EReal => a * (EG w h (z 0).val (z 2).val k.val : EReal)) (congrArg h (funext fun a => Fin.ext ?_))
  fin_cases a
  · rfl
  · exact (show (128 + (z 1).val) % 4096 = 128 + (z 1).val by omega)

end Cert.KernelIdeal.Hand

end
-- ==== Proof.lean ====
/- The claims of this directory, put together from the hand modules. -/
module

public import proofs.«01_k».proof.Defs
public import proofs.«01_k».proof.Proof.Hand.KernelFrame
public import proofs.«01_k».proof.Proof.Hand.KRun
public import proofs.«01_k».proof.Proof.Gen.ReferenceIdeal.Run
public import proofs.«01_k».proof.Proof.Hand.RefRun
public import proofs.«01_k».proof.Proof.Hand.RefEnd
public import proofs.«01_k».proof.Proof.Hand.Pre
public import proofs.«01_k».proof.Proof.Hand.On
public import proofs.«01_k».proof.Proof.Hand.Value

@[expose] public section

namespace Cert.Proof

open Idealize.ShloMosaic Idealize.SL.Sem

/-- Where the inputs are finite and no pivot is zero, the two programs end with equal results. -/
theorem algebraic : Cert.algebraic_KernelIdeal_ReferenceIdeal_pre_finite_nonzero_pivots := by
  intro m g m' g' hpre hagree
  have ew : ∀ c, Cert.ReferenceIdeal.Hand.aw m' c = Cert.KernelIdeal.Hand.aw m c := fun c => (hagree c).1
  have eh : ∀ c, Cert.ReferenceIdeal.Hand.ah m' c = Cert.KernelIdeal.Hand.ah m c := fun c => (hagree c).2
  refine ⟨fun c => Cert.KernelIdeal.Hand.R0 (Cert.KernelIdeal.Hand.aw m c) (Cert.KernelIdeal.Hand.ah m c),
    fun c => Cert.KernelIdeal.Hand.R1 (Cert.KernelIdeal.Hand.aw m c) (Cert.KernelIdeal.Hand.ah m c),
    fun c => Cert.KernelIdeal.Hand.R2 (Cert.KernelIdeal.Hand.aw m c) (Cert.KernelIdeal.Hand.ah m c),
    fun c => Cert.KernelIdeal.Hand.R3 (Cert.KernelIdeal.Hand.aw m c), ?_, ?_⟩
  · exact (θ_run _ _ _).mono (fun r h c => ⟨(h c).2.1, (h c).2.2.1, (h c).2.2.2.1, (h c).2.2.2.2, (h c).1.1, (h c).1.2⟩)
      (Cert.KernelIdeal.Hand.run_value m g)
  · refine (θ_run _ _ _).mono (fun r h c => ?_) (Cert.ReferenceIdeal.Hand.run_value m' g')
    obtain ⟨⟨a0, a1⟩, r0, r1, r2, r3⟩ := h c
    rw [ew, eh] at r0 r1 r2
    rw [ew] at r3
    have hp := hpre c
    refine ⟨r0.trans ?_, r1, r2, r3, a0, a1⟩
    exact (Cert.KernelIdeal.Hand.R0_eq (Cert.Pre_finite_nonzero_pivots.w_fin _ _ hp.1) (Cert.Pre_finite_nonzero_pivots.h_fin _ _ hp.2.1)
      (Cert.Pre_finite_nonzero_pivots.piv_ne _ _ hp.2.2)).symm

/-- Whatever the inputs, the two programs end with equal errors, codes and scales. -/
theorem algebraic_on : Cert.algebraic_KernelIdeal_ReferenceIdeal_on_all_but_the_update := by
  intro m g m' g' _ hagree
  have ew : ∀ c, Cert.ReferenceIdeal.Hand.aw m' c = Cert.KernelIdeal.Hand.aw m c := fun c => (hagree c).1
  have eh : ∀ c, Cert.ReferenceIdeal.Hand.ah m' c = Cert.KernelIdeal.Hand.ah m c := fun c => (hagree c).2
  refine ⟨fun c => Cert.KernelIdeal.Hand.R0 (Cert.KernelIdeal.Hand.aw m c) (Cert.KernelIdeal.Hand.ah m c),
    fun c => Cert.KernelIdeal.Hand.R1 (Cert.KernelIdeal.Hand.aw m c) (Cert.KernelIdeal.Hand.ah m c),
    fun c => Cert.KernelIdeal.Hand.R2 (Cert.KernelIdeal.Hand.aw m c) (Cert.KernelIdeal.Hand.ah m c),
    fun c => Cert.KernelIdeal.Hand.R3 (Cert.KernelIdeal.Hand.aw m c), ?_, ?_⟩
  · exact (θ_run _ _ _).mono (fun r h c => ⟨fun i _ => congrFun (h c).2.1 i, fun i _ => congrFun (h c).2.2.1 i,
      fun i _ => congrFun (h c).2.2.2.1 i, fun i _ => congrFun (h c).2.2.2.2 i, (h c).1.1, (h c).1.2⟩)
      (Cert.KernelIdeal.Hand.run_value m g)
  · refine (θ_run _ _ _).mono (fun r h c => ?_) (Cert.ReferenceIdeal.Hand.run_value m' g')
    obtain ⟨⟨a0, a1⟩, _, r1, r2, r3⟩ := h c
    rw [ew, eh] at r1 r2
    rw [ew] at r3
    exact ⟨fun i e => absurd e (Cert.On_all_but_the_update.update_off _ _ i), fun i _ => congrFun r1 i, fun i _ => congrFun r2 i,
      fun i _ => congrFun r3 i, a0, a1⟩

/-- Every claim of this directory. -/
theorem claim : Cert.Claim := ⟨Cert.Kernel.Gen.facts, Cert.KernelIdeal.Gen.facts, Cert.ReferenceIdeal.Gen.facts, Cert.Pre_finite_nonzero_pivots.facts,
  Cert.On_all_but_the_update.facts,
  fun m g _ => Cert.Kernel.Hand.frame m g, fun m g _ => Cert.KernelIdeal.Hand.frame m g, fun m g _ => Cert.KernelIdeal.Hand.frame m g,
  fun m g _ => Cert.ReferenceIdeal.Hand.frame m g, fun m g _ => Cert.ReferenceIdeal.Hand.frame m g, trivial, algebraic, algebraic_on⟩

end Cert.Proof

end
